-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S512x2048 : Shape := ⟨2, ![512, 2048]⟩
abbrev S16x2x2048 : Shape := ⟨3, ![16, 2, 2048]⟩
abbrev S4 : Shape := ⟨1, ![4]⟩
abbrev S16 : Shape := ⟨1, ![16]⟩
abbrev S1 : Shape := ⟨1, ![1]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S512x2048, .f32⟩
  | .local _ .vmem, ⟨2, _⟩ => ⟨S512x2048, .f32⟩
  | .local _ .vmem, ⟨3, _⟩ => ⟨S2x2048, .bf16⟩
  | .local _ .vmem, ⟨4, _⟩ => ⟨S16x2x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v13 v8
  let c512_i32 : BitVec 32 := 512#32
  let v15 : BitVec 32 := Scalar.muli v14 c512_i32
  let v16 : BitVec 32 := Scalar.addi v15 c0_i32
  let c0_i32_8 : BitVec 32 := 0#32
  ![v16.toNat, 0]
def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_83 : BitVec 32 := 0#32
  let c0_i32_84 : BitVec 32 := 0#32
  ![v12.toNat, 0, 0]
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelIdeal.Flat.lean ====
/-
The kernel's body as sixteen-fold passes.

The printed body writes its sixteen signals, sixteen transfers, sixteen waits for arrivals and sixteen waits for departures
out one after the other. Here each is one recursive pass over the list of devices, so that what a pass does is proved
once, by induction over the list. `body_eq` says that the printed body is this one.
-/
module

public import proofs.«01_k».proof.Proof.Gen.KernelIdeal
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-- The programs a TensorCore of this kernel runs. -/
abbrev P (F : FTy → Type) : Type _ := Prog (TpuEff nD τ sig (Elt F) Λ₀ .tc) PUnit

/-! ## Bounds at a symbolic index -/

theorem inb_sem (j : Fin 16) : ∀ a, (![j.val] : Fin 1 → Nat) a + S1.size a ≤ S16.size a := by revert j; decide
theorem inb_in (k : Fin 4) : ∀ a, (![k.val] : Fin 1 → Nat) a + S1.size a ≤ S4.size a := by revert k; decide
theorem inb_slot (j : Fin 16) : ∀ a, (![j.val, 0, 0] : Fin 3 → Nat) a + S1x2x2048.size a ≤ S16x2x2048.size a := by revert j; decide
theorem words_slot (j : Fin 16) : (Rect.unit (s := S16x2x2048) ![j.val, 0, 0] S1x2x2048.size (inb_slot j)).WholeWords (EltTy.packing .bf16) := by
  revert j; decide
theorem inb_half (r : Fin 2) : ∀ a, (![256 * r.val, 0] : Fin 2 → Nat) a + S256x2048.size a ≤ S512x2048.size a := by revert r; decide

/-! ## The buffers, their pieces and the semaphores -/

abbrev xA : Memref sig .tc .hbm S4096x2048 .f32 := Memref.whole main_arg0
abbrev yA : Memref sig .tc .hbm S4096x2048 .f32 := Memref.whole main_arg1
abbrev oM : Memref sig .tc .vmem S2x2048 .f32 := Memref.whole cc0_stg0_0
abbrev xS : Memref sig .tc .vmem S512x2048 .f32 := Memref.whole cc0_scratch0
abbrev yS : Memref sig .tc .vmem S512x2048 .f32 := Memref.whole cc0_scratch1
abbrev accM : Memref sig .tc .vmem S2x2048 .bf16 := Memref.whole cc0_scratch2
abbrev recvM : Memref sig .tc .vmem S16x2x2048 .bf16 := Memref.whole cc0_scratch3

/-- Half `r` of the device's rows of an argument. -/
abbrev rowsOf (a : Memref sig .tc .hbm S4096x2048 .f32) (d : Dev nD) (r : Fin 2) : Memref sig .tc .hbm S256x2048 .f32 :=
  a.slice (Rect.unit (s := S4096x2048) (k0_off1 d (BitVec.ofNat 32 (256 * r.val))) S256x2048.size (k0_off1_inb d r)) (fun _ => rfl)
/-- The rectangle of half `r` of a scratch buffer. -/
abbrev halfR (r : Fin 2) : Rect S512x2048 := Rect.unit (s := S512x2048) ![256 * r.val, 0] S256x2048.size (inb_half r)
/-- Half `r` of a scratch buffer. -/
abbrev halfOf (a : Memref sig .tc .vmem S512x2048 .f32) (r : Fin 2) : Memref sig .tc .vmem S256x2048 .f32 :=
  a.slice (halfR r) (fun _ => rfl)
/-- The slot at offset `off` of the receive buffer. -/
abbrev slotAt (off : Fin 3 → Nat) (h : ∀ a, off a + S1x2x2048.size a ≤ S16x2x2048.size a) : Memref sig .tc .vmem S2x2048 .bf16 :=
  (recvM.slice (Rect.unit (s := S16x2x2048) off S1x2x2048.size h) (fun _ => rfl)).squeeze S2x2048 squeezes_S1x2x2048_S2x2048
/-- Slot `j` of the receive buffer. -/
abbrev slotM (j : Fin 16) : Memref sig .tc .vmem S2x2048 .bf16 := slotAt ![j.val, 0, 0] (inb_slot j)

abbrev barS : Sem sig := (SemArray.scalar (sig.barrier 0 rfl) : Sems sig S_).sem
abbrev inSem (k : Fin 4) : DmaSem sig :=
  ((cc0_scratch4.slice (Rect.unit (s := S4) ![k.val] S1.size (inb_in k))).squeeze S_ squeezes_S1_S_ : DmaSems sig S_).sem
abbrev sendSem (j : Fin 16) : DmaSem sig :=
  ((cc0_scratch5.slice (Rect.unit (s := S16) ![j.val] S1.size (inb_sem j))).squeeze S_ squeezes_S1_S_ : DmaSems sig S_).sem
abbrev recvSemAt (off : Fin 1 → Nat) (h : ∀ a, off a + S1.size a ≤ S16.size a) : DmaSem sig :=
  ((cc0_scratch6.slice (Rect.unit (s := S16) off S1.size h)).squeeze S_ squeezes_S1_S_ : DmaSems sig S_).sem
abbrev recvSem (j : Fin 16) : DmaSem sig := recvSemAt ![j.val] (inb_sem j)

abbrev accR : Rect S2x2048 := Rect.unit (s := S2x2048) ![0, 0] S2x2048.size inb_S2x2048_S2x2048_0_0
abbrev recvR : Rect S16x2x2048 := Rect.unit (s := S16x2x2048) ![0, 0, 0] S16x2x2048.size inb_S16x2x2048_S16x2x2048_0_0_0

/-! ## The passes -/

/-- The copy of half `r` of argument `a`'s rows into scratch `b`, completing on incoming semaphore `q`. -/
def fetch (a : Memref sig .tc .hbm S4096x2048 .f32) (b : Memref sig .tc .vmem S512x2048 .f32) (d : Dev nD) (r : Fin 2) (q : Fin 4) (k : P F) : P F :=
  .op (.enqueueDma (rowsOf a d r) (.here (halfOf b r)) (.dma (inSem q)) (View.wordExact_bits rfl) (View.wordExact_bits rfl) ⟨Or.inl rfl, trivial⟩)
    fun _ => k

/-- The wait for that copy. -/
def await (a : Memref sig .tc .hbm S4096x2048 .f32) (b : Memref sig .tc .vmem S512x2048 .f32) (d : Dev nD) (r : Fin 2) (q : Fin 4) (k : P F) : P F :=
  .op (.waitDma2 (inSem q) (rowsOf a d r) (halfOf b r) (View.wordExact_bits rfl) (View.wordExact_bits rfl)) fun _ => k

/-- One signal to each listed device's barrier semaphore. -/
def signals : List (Dev nD) → P F → P F
  | [], k => k
  | j :: l, k => .op (.semSignal (Dev.tc j) barS 1) fun _ => signals l k

/-- One transfer of the accumulator to each listed device, into this device's slot there. -/
def sends (d : Dev nD) : List (Dev nD) → P F → P F
  | [], k => k
  | j :: l, k => .op (.enqueueDma accM (.remote (Dev.tc j) (slotAt (k0_off3 d) (k0_off3_inb d)) (.dma (sendSem j))) (.dma (recvSemAt (k0_off2 d) (k0_off2_inb d)))
      (Memref.isWhole_whole _).wordExact (((Memref.isWhole_whole cc0_scratch3).wordExact_slice rfl _ (k0_off3_wordsbf16 d)).reshape _ _) ⟨⟨rfl, Or.inl rfl⟩, trivial⟩)
    fun _ => sends d l k

/-- One wait for the arrival from each listed device. -/
def arrivals : List (Dev nD) → P F → P F
  | [], k => k
  | j :: l, k => .op (.waitDma2 (recvSem j) accM (slotM j) (Memref.isWhole_whole _).wordExact
      (((Memref.isWhole_whole cc0_scratch3).wordExact_slice rfl _ (words_slot j)).reshape _ _)) fun _ => arrivals l k

/-- One wait for the departure to each listed device. -/
def departures (d : Dev nD) : List (Dev nD) → P F → P F
  | [], k => k
  | j :: l, k => .op (.waitDma2 (sendSem j) (slotAt (k0_off3 d) (k0_off3_inb d)) accM
      (((Memref.isWhole_whole cc0_scratch3).wordExact_slice rfl _ (k0_off3_wordsbf16 d)).reshape _ _) (Memref.isWhole_whole _).wordExact) fun _ => departures d l k

/-- All sixteen devices, in order. -/
abbrev devs : List (Dev nD) := [0, 1, 2, 3, 4, 5, 6, 7, 8, 9, 10, 11, 12, 13, 14, 15]

/-- The loads of half `r` of both scratch buffers. -/
def loads (r : Fin 2) (k : Vec F S256x2048 .f32 → Vec F S256x2048 .f32 → P F) : P F :=
  .op (.load xS (halfR r).toLoadRect (View.loadsAt_vmem h_S256x2048)) fun v =>
  .op (.load yS (halfR r).toLoadRect (View.loadsAt_vmem h_S256x2048)) fun w => k v w

/-- The whole receive buffer loaded, its slots' sum stored as the result. -/
def total (k : P F) : P F :=
  .op (.load recvM recvR.toLoadRect (View.loadsAt_vmem h_S16x2x2048)) fun v =>
  .op (.load oM accR.toLoadRect (View.loadsAt_vmem h_S2x2048)) fun _ =>
  .op (.store oM accR (k0_pay3 v) Finset.univ (View.stores_vmem_bits_univ h_S2x2048 rfl) (.inl rfl)) fun _ => k

/-- The accumulator stored. -/
def keep (v : Vec F S2x2048 .bf16) (k : P F) : P F :=
  .op (.load accM accR.toLoadRect (View.loadsAt_vmem h_S2x2048)) fun _ =>
  .op (.store accM accR v Finset.univ
    (View.stores_vmem h_S2x2048 ((Memref.isWhole_whole cc0_scratch2).storeExact_slice rfl _ packedbf16_S2x2048_S2x2048_0_0) (fun _ => rfl)) (.inl rfl)) fun _ => k

/-- What the body does on device `d`. -/
def bodyAt (d : Dev nD) : P F :=
  fetch xA xS d 0 0 <| fetch yA yS d 0 1 <| fetch xA xS d 1 2 <| fetch yA yS d 1 3 <|
  signals devs <|
  .op (.semWait barS 16) fun _ =>
  await xA xS d 0 0 <| await yA yS d 0 1 <| loads 0 fun v w =>
  await xA xS d 1 2 <| await yA yS d 1 3 <| loads 1 fun v' w' =>
  keep (k0_pay2 (k0_pay1 v w) v' w') <|
  sends d devs <| arrivals devs <| total <| departures d devs <| .ret ⟨⟩

set_option maxRecDepth 65536 in
/-- The printed body is the passes. -/
theorem body_eq :
    cc0__body (F := F) (Memref.whole main_arg0) (Memref.isWhole_whole _) (Memref.whole main_arg1) (Memref.isWhole_whole _) (Memref.whole cc0_stg0_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6
    = .op .deviceId bodyAt := by
  rw [cc0__body_eq_skeleton]
  rfl

end Cert.KernelIdeal.Hand

end
-- ==== Proof.KernelIdeal.Schedule.lean ====
/-
The protocol between the sixteen devices: its cells, what they hand over, what each device owes, and the levels.

Every device signals every device's barrier semaphore once, and with that signal gives the receiver leave to write one slot
of its receive buffer. Having waited for its own sixteen signals, a device so owns its slot of every receive buffer and sends
its accumulator there, one sixteenth of a read share to each. A wait on receive semaphore `j` brings slot `j` filled by device
`j`; a wait on send semaphore `j` brings that share of the accumulator back. The four incoming copies of a device's own rows
complete on semaphores of their own.
-/
module

public import proofs.«01_k».proof.Proof.KernelIdeal.Flat
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.SparseCore.Stream
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The semaphores of one device the protocol uses: the barrier, the four for incoming copies, one to send to each device and
    one to receive from each. -/
abbrev Kd : Type := Unit ⊕ Fin 4 ⊕ Dev nD ⊕ Dev nD

abbrev kB : Kd := .inl ()
abbrev kI (q : Fin 4) : Kd := .inr (.inl q)
abbrev kS (j : Dev nD) : Kd := .inr (.inr (.inl j))
abbrev kV (j : Dev nD) : Kd := .inr (.inr (.inr j))

/-- The semaphores the launch scopes: all but the barrier. -/
abbrev osem : Fin 4 ⊕ Dev nD ⊕ Dev nD → SemLoc sig
  | .inl q => .dma (inSem q)
  | .inr (.inl j) => .dma (sendSem j)
  | .inr (.inr j) => .dma (recvSem j)

abbrev csem : Kd → SemLoc sig
  | .inl _ => .reg barS
  | .inr k => osem k

abbrev kcell (ck : Dev nD × Kd) : GSem nD τ sig := ((ck.1 : Thread nD τ), csem ck.2)

set_option backward.proofsInPublic true in
/-- Which of the protocol's semaphores one is, if any. -/
def kind : SemLoc sig → Option Kd
  | .reg _ => some kB
  | .dma q =>
    if q.val = 0 then none
    else if h : q.val - 1 < 4 then some (kI ⟨q.val - 1, h⟩)
    else if h : q.val - 5 < 16 then some (kS ⟨q.val - 5, h⟩)
    else if h : q.val - 21 < 16 then some (kV ⟨q.val - 21, h⟩)
    else none

theorem kind_in : ∀ q, kind (.dma (inSem q)) = some (kI q) := by decide
theorem kind_send : ∀ j, kind (.dma (sendSem j)) = some (kS j) := by decide
theorem kind_recv : ∀ j, kind (.dma (recvSem j)) = some (kV j) := by decide
theorem kind_csem : ∀ k, kind (csem k) = some k
  | .inl _ => rfl
  | .inr (.inl q) => kind_in q
  | .inr (.inr (.inl j)) => kind_send j
  | .inr (.inr (.inr j)) => kind_recv j

theorem csem_injective : Function.Injective csem := fun k k' h =>
  Option.some.inj ((kind_csem k).symm.trans ((congrArg kind h).trans (kind_csem k')))
theorem kcell_injective : Function.Injective kcell := by
  rintro ⟨c, k⟩ ⟨c', k'⟩ h
  exact Prod.ext (congrArg (fun g : GSem nD τ sig => g.1.1) h) (csem_injective (congrArg Prod.snd h))

/-! ## Contents -/

/-- Half `r` of device `c`'s rows of the first argument. -/
def xHalf (c : Dev nD) (r : Fin 2) : Vec F S256x2048 .f32 :=
  (rowsOf xA c r).view.read (Elt F) (m ((rowsOf xA c r).view.loc (c : Thread nD τ)))
/-- Half `r` of device `c`'s rows of the second argument. -/
def yHalf (c : Dev nD) (r : Fin 2) : Vec F S256x2048 .f32 :=
  (rowsOf yA c r).view.read (Elt F) (m ((rowsOf yA c r).view.loc (c : Thread nD τ)))
/-- Device `c`'s partial sums, rounded to the accumulator's type. -/
def accV (c : Dev nD) : Vec F S2x2048 .bf16 := k0_pay2 (k0_pay1 (xHalf m c 0) (yHalf m c 0)) (xHalf m c 1) (yHalf m c 1)
/-- The receive buffer once every device's partial sums are in it. -/
def gathered : (cc0_scratch3 : Ref sig .tc).ty.Contents (Elt F) :=
  fun i => accV m (i (0 : Fin 3)) (ValueIdx.ix2 (i (1 : Fin 3)) (i (2 : Fin 3)))
/-- The result on every device. -/
def outV : (cc0_stg0_0 : Ref sig .tc).ty.Contents (Elt F) := k0_pay3 (gathered m)

/-! ## Points-tos -/

/-- Slot `j` of device `c`'s receive buffer, at contents `f` of that buffer. -/
def slotPts (c j : Dev nD) (f : Buf (Elt F) ((c : Thread nD τ).loc cc0_scratch3)) : sProp 𝕄 :=
  (slotM j).view.loc (c : Thread nD τ) ↦[(slotM j).view.set]{fullShare} f
/-- Device `c`'s accumulator at share `q`, holding its partial sums. -/
def accPts (c : Dev nD) (q : PosShare TreeShare) : sProp 𝕄 :=
  accM.view.loc (c : Thread nD τ) ↦[accM.view.set]{q} accV m c
/-- The share of the accumulator lent to the transfer to device `j`. -/
def lent (j : Dev nD) : PosShare TreeShare := pieceOf fullShare 16 (by decide) j

/-- What an incoming copy brings: the scratch half holding the argument's rows, and those rows of the argument again. -/
def fetched (a : Memref sig .tc .hbm S4096x2048 .f32) (b : Memref sig .tc .vmem S512x2048 .f32) (c : Dev nD) (r : Fin 2) (q : PosShare TreeShare) : sProp 𝕄 :=
  iprop((∃ f, ⌜(halfOf b r).view.read (Elt F) f = (rowsOf a c r).view.read (Elt F) (m ((rowsOf a c r).view.loc (c : Thread nD τ)))⌝
      ∗ ((halfOf b r).view.loc (c : Thread nD τ) ↦[(halfOf b r).view.set]{fullShare} f))
    ∗ ((rowsOf a c r).view.loc (c : Thread nD τ) ↦[(rowsOf a c r).view.set]{q} m ((rowsOf a c r).view.loc (c : Thread nD τ))))

/-- What incoming semaphore `q` of device `c` brings. -/
def inPay (c : Dev nD) : Fin 4 → sProp 𝕄
  | 0 => fetched m xA xS c 0 fullShare.left
  | 1 => fetched m yA yS c 0 fullShare.left
  | 2 => fetched m xA xS c 1 fullShare.right
  | 3 => fetched m yA yS c 1 fullShare.right

instance slotPts_storable (c j : Dev nD) (f) : BI.Storable (upEmb : UEmb _ 𝕄) (slotPts (F := F) c j f) := by unfold slotPts; infer_instance
instance accPts_storable (c : Dev nD) (q) : BI.Storable (upEmb : UEmb _ 𝕄) (accPts (F := F) m c q) := by unfold accPts; infer_instance
instance fetched_storable (a b) (c : Dev nD) (r q) : BI.Storable (upEmb : UEmb _ 𝕄) (fetched (F := F) m a b c r q) := by unfold fetched; infer_instance
instance inPay_storable (c : Dev nD) (q : Fin 4) : BI.Storable (upEmb : UEmb _ 𝕄) (inPay (F := F) m c q) := by
  fin_cases q <;> (dsimp only [inPay]; infer_instance)

/-! ## The schedule -/

/-- The bytes' credit of one incoming copy, and of one transfer of the accumulator. -/
def NI : ℕ := (halfOf xS 0).view.dmaCredit
def NS : ℕ := accM.view.dmaCredit
theorem NI_pos : 0 < NI := View.dmaCredit_pos _ (by decide)
theorem NS_pos : 0 < NS := View.dmaCredit_pos _ (by decide)

/-- A barrier has a duty for every device; every other cell one. -/
def dutiesK : Kd → Finset (Dev nD)
  | .inl _ => Finset.univ
  | .inr _ => {0}
def amountK : Kd → ℕ
  | .inl _ => 1
  | .inr (.inl _) => NI
  | .inr (.inr _) => NS
/-- What the duty named `d` hands device `c` on its cell: on its barrier, device `d` hands `c`'s slot of `d`'s receive buffer. -/
def payK (c : Dev nD) (d : Dev nD) : Kd → sProp 𝕄
  | .inl _ => iprop(∃ f, slotPts d c f)
  | .inr (.inl q) => inPay m c q
  | .inr (.inr (.inl j)) => accPts m c (lent j)
  | .inr (.inr (.inr j)) => slotPts c j (gathered m)

theorem amountK_pos (k : Kd) : 0 < amountK k := by
  rcases k with _ | _ | _
  · rw [amountK]; exact Nat.one_pos
  · rw [amountK]; exact NI_pos
  · rw [amountK]; exact NS_pos

instance payK_storable (c d : Dev nD) (k : Kd) : BI.Storable (upEmb : UEmb _ 𝕄) (payK (F := F) m c d k) := by
  rcases k with _ | _ | _ | _ <;> (dsimp only [payK]; infer_instance)

/-- One round, round 0, on every device's cells. -/
def Rd : Rounds.Schedule (GSem nD τ sig) (Dev nD) 𝕄 where
  duties g r := if r = 0 ∧ g.1.2 = .tc then (kind g.2).elim ∅ dutiesK else ∅
  unitless _ := False
  amount g _ _ := (kind g.2).elim 1 amountK
  payload g _ d := (kind g.2).elim iprop(emp) (payK m g.1.1 d)
  amount_pos g _ _ _ := by
    cases h : kind g.2 with
    | none => exact Nat.one_pos
    | some k => exact amountK_pos k

instance Rd_payload_storable (g : GSem nD τ sig) (r : ℕ) (d : Dev nD) : BI.Storable (upEmb : UEmb _ 𝕄) ((Rd (F := F) m).payload g r d) := by
  show BI.Storable upEmb ((kind g.2).elim iprop(emp) (payK m g.1.1 d))
  cases kind g.2 <;> (dsimp only [Option.elim]; infer_instance)

theorem duties_cell (c : Dev nD) (k : Kd) : (Rd (F := F) m).duties (kcell (c, k)) 0 = dutiesK k := by
  dsimp only [Rd]; rw [if_pos ⟨rfl, rfl⟩, kind_csem]; rfl
theorem duties_later (g : GSem nD τ sig) : ∀ r, 1 ≤ r → (Rd (F := F) m).duties g r = ∅ :=
  fun r hr => by dsimp only [Rd]; rw [if_neg fun h => by omega]
theorem amount_cell (c : Dev nD) (k : Kd) (d : Dev nD) : (Rd (F := F) m).amount (kcell (c, k)) 0 d = amountK k := by
  dsimp only [Rd]; rw [kind_csem]; rfl
theorem payload_cell (c : Dev nD) (k : Kd) (d : Dev nD) : (Rd (F := F) m).payload (kcell (c, k)) 0 d = payK m c d k := by
  dsimp only [Rd]; rw [kind_csem]; rfl

/-- A barrier's round is worth sixteen units; -/
theorem expect_bar (c : Dev nD) : (Rd (F := F) m).expect (kcell (c, kB)) 0 = 16 := by
  unfold Schedule.expect Schedule.amountOf
  rw [duties_cell, Finset.sum_congr rfl fun d _ => amount_cell m c kB d]
  exact (Finset.sum_const _).trans (by rw [dutiesK, Finset.card_univ, Fintype.card_fin]; exact Nat.mul_one _)
/-- any other cell's its one transfer's credit. -/
theorem expect_own (c : Dev nD) (k) : (Rd (F := F) m).expect (kcell (c, .inr k)) 0 = amountK (.inr k) := by
  unfold Schedule.expect Schedule.amountOf
  rw [duties_cell]; exact (Finset.sum_singleton _ _).trans (amount_cell m c _ _)

/-- What a barrier wait brings: this device's slot of every receive buffer. -/
theorem rest_bar (c : Dev nD) : bigSep ((Rd (F := F) m).duties (kcell (c, kB)) 0 \ ∅) (fun d => (Rd (F := F) m).payload (kcell (c, kB)) 0 d)
    = bigSep Finset.univ fun d : Dev nD => iprop(∃ f, slotPts d c f) := by
  rw [Finset.sdiff_empty, duties_cell]
  exact bigSep_congr fun d _ => payload_cell m c kB d
/-- What any other wait brings. -/
theorem rest_own (c : Dev nD) (k) : bigSep ((Rd (F := F) m).duties (kcell (c, .inr k)) 0 \ ∅) (fun d => (Rd (F := F) m).payload (kcell (c, .inr k)) 0 d)
    = payK m c 0 (.inr k) := by
  rw [Finset.sdiff_empty, duties_cell]
  exact bigSep_singleton.trans (payload_cell m c _ _)

/-! ## What each device owes at launch; the levels -/

/-- The arrivals device `c` still owes the listed devices; -/
def owedSend (c : Dev nD) : List (Dev nD) → CellTallies nD τ sig Unit
  | [] => 0
  | j :: l => owedSend c l + tallyAt (kcell (j, kV c)) () NS
/-- and, before those, a barrier unit to each listed device. -/
def owedSig (R : CellTallies nD τ sig Unit) : List (Dev nD) → CellTallies nD τ sig Unit
  | [] => R
  | j :: l => owedSig R l + tallyAt (kcell (j, kB)) () 1

def O₀ (c : Dev nD) : CellTallies nD τ sig Unit := owedSig (owedSend c devs) devs

theorem owedSend_pos {c : Dev nD} {g : GSem nD τ sig} {u : Unit} : ∀ {l : List (Dev nD)}, 0 < owedSend c l g u → ∃ j, g = kcell (j, kV c)
  | [], h => absurd h (Nat.lt_irrefl 0)
  | j :: l, h => by
    unfold owedSend at h
    rw [Pi.add_apply, Finsupp.add_apply, tallyAt_apply] at h
    by_cases hg : g = kcell (j, kV c) ∧ u = ()
    · exact ⟨j, hg.1⟩
    · rw [if_neg hg, Nat.add_zero] at h; exact owedSend_pos h
theorem owedSig_pos {R : CellTallies nD τ sig Unit} {g : GSem nD τ sig} {u : Unit} :
    ∀ {l : List (Dev nD)}, 0 < owedSig R l g u → 0 < R g u ∨ ∃ j, g = kcell (j, kB)
  | [], h => .inl h
  | j :: l, h => by
    unfold owedSig at h
    rw [Pi.add_apply, Finsupp.add_apply, tallyAt_apply] at h
    by_cases hg : g = kcell (j, kB) ∧ u = ()
    · exact .inr ⟨j, hg.1⟩
    · rw [if_neg hg, Nat.add_zero] at h; exact owedSig_pos h

def L (g : GSem nD τ sig) : Finset Unit := if g.1.2 = .tc then {()} else ∅
/-- Barriers at 1, arrivals at 2, everything else at 0. -/
def lv (g : GSem nD τ sig) (_ : Unit) : ℕ :=
  match kind g.2 with
  | some (.inl _) => 1
  | some (.inr (.inr (.inr _))) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) :
    lv (kcell (c, k)) u = match k with | .inl _ => 1 | .inr (.inr (.inr _)) => 2 | _ => 0 := by
  unfold lv; rw [kind_csem]; rcases k with _ | _ | _ | _ <;> rfl

/-- Under what a device owes at any time, it may wait on any semaphore below the levels of all it owes. -/
theorem mayWait (c : Dev nD) (sm : SemLoc sig) (n : ℕ) (hn : lv ((c : Thread nD τ), sm) () ≤ n) (O : CellTallies nD τ sig Unit)
    (hO : ∀ g u, 0 < O g u → ∃ j k, g = kcell (j, k) ∧ n < lv (kcell (j, k)) ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨j, k, rfl, _⟩ := hO g u hg; exact Finset.mem_singleton_self _)
    (fun p hp => by rw [Finset.mem_singleton.mp hp]; exact hn)
    (fun g u hg => by obtain ⟨j, k, rfl, h⟩ := hO g u hg; exact h)

theorem owedSend_level {c : Dev nD} {l : List (Dev nD)} (g : GSem nD τ sig) (u : Unit) (h : 0 < owedSend c l g u) :
    ∃ j k, g = kcell (j, k) ∧ 1 < lv (kcell (j, k)) () := by
  obtain ⟨j, rfl⟩ := owedSend_pos h
  exact ⟨j, kV c, rfl, by rw [lv_cell]; exact Nat.one_lt_two⟩
theorem O₀_level {c : Dev nD} (g : GSem nD τ sig) (u : Unit) (h : 0 < O₀ c g u) : ∃ j k, g = kcell (j, k) ∧ 0 < lv (kcell (j, k)) () := by
  rcases owedSig_pos h with h | ⟨j, rfl⟩
  · obtain ⟨j, k, e, h⟩ := owedSend_level g u h; exact ⟨j, k, e, by omega⟩
  · exact ⟨j, kB, rfl, by rw [lv_cell]; exact Nat.one_pos⟩

/-- A staging semaphore may be waited on before the body and after it; -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · exact mayWait c _ 0 (by unfold lv; rw [hq]) _ O₀_level
  · rw [MayWait_zero]; iintro -; iempintro
/-- the barrier and the incoming semaphores while only arrivals are owed. -/
theorem mayWait_mid (c : Dev nD) (k : Kd) (hk : lv (kcell (c, k)) () ≤ 1) (l : List (Dev nD)) :
    (levAts L lv : sProp 𝕄) ⊢ MayWait (c : Thread nD τ) (csem k) () (owedSend c l) :=
  mayWait c _ 1 hk _ owedSend_level

end Cert.KernelIdeal.Hand

end
-- ==== Proof.KernelIdeal.Pieces.lean ====
/-
How the buffers come apart and go together again: the receive buffer in sixteen slots, the accumulator in sixteen read
shares, a scratch buffer in two halves, an argument's rows out of the argument.
-/
module

public import proofs.«01_k».proof.Proof.KernelIdeal.Schedule

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots -/

theorem slot_set (j : Dev nD) : (slotM j).view.set = (Rect.unit (s := S16x2x2048) ![j.val, 0, 0] S1x2x2048.size (inb_slot j)).set :=
  (View.set_reshape _ _).trans (View.set_slice_whole _ _)

theorem slot_disjoint (j j' : Dev nD) (h : j ≠ j') : Disjoint (slotM j).view.set (slotM j').view.set := by
  rw [slot_set, slot_set]
  refine Rect.unit_disjoint (0 : Fin 3) ?_
  have : j.val ≠ j'.val := fun e => h (Fin.ext e)
  show j.val + 1 ≤ j'.val ∨ j'.val + 1 ≤ j.val
  omega

theorem mem_slot (i : S16x2x2048.Idx) (j : Dev nD) (h : (i (0 : Fin 3)).val = j.val) : i ∈ (slotM j).view.set := by
  rw [slot_set, Rect.mem_set_unit]
  have h1 := (i (1 : Fin 3)).isLt
  have h2 := (i (2 : Fin 3)).isLt
  intro a
  fin_cases a
  · show j.val ≤ (i (0 : Fin 3)).val ∧ (i (0 : Fin 3)).val < j.val + 1; omega
  · exact ⟨Nat.zero_le _, (show (i (1 : Fin 3)).val < 0 + 2 from by rw [Nat.zero_add]; exact h1)⟩
  · exact ⟨Nat.zero_le _, (show (i (2 : Fin 3)).val < 0 + 2048 from by rw [Nat.zero_add]; exact h2)⟩

/-- The elements of slot `j`, among the receive buffer's. -/
abbrev slotSet (j : Dev nD) : Finset S16x2x2048.Idx := (slotM j).view.set

theorem slot_cover : (Finset.univ : Finset (Dev nD)).biUnion slotSet = Finset.univ := by
  ext i
  simp only [Finset.mem_biUnion, Finset.mem_univ, true_and, iff_true]
  exact ⟨i (0 : Fin 3), mem_slot i _ rfl⟩

/-- The receive buffer is its sixteen slots. -/
theorem recv_slots (c : Dev nD) (f : Buf (Elt F) ((c : Thread nD τ).loc cc0_scratch3)) :
    (((c : Thread nD τ).loc cc0_scratch3) ↦{fullShare} f : sProp 𝕄) = bigSep Finset.univ fun j : Dev nD => slotPts c j f := by
  have h := pointsTo_biUnion (ℓ := (c : Thread nD τ).loc cc0_scratch3) (q := fullShare) (f := f) (Ix := Unit) (Name := ℕ) (U := UU) (Lvl := ℕ)
    Finset.univ slotSet fun j _ j' _ h => slot_disjoint j j' h
  rw [slot_cover] at h
  exact h

/-- A device's slot of a receive buffer, as the transfers address it. -/
theorem slotAt_eq (off : Fin 3 → Nat) (h) (j : Dev nD) (e : off = ![j.val, 0, 0]) : slotAt off h = slotM j := by subst e; rfl
/-- The receive semaphore a device completes on, as the transfers address it. -/
theorem recvSemAt_eq (off : Fin 1 → Nat) (h) (j : Dev nD) (e : off = ![j.val]) : recvSemAt off h = recvSem j := by subst e; rfl

theorem linear_lt (d : Dev nD) : 8 * (d.val / 8) + 4 * ((d.val / 4) % 2) + d.val % 4 = d.val := by omega
theorem off3_eq (d : Dev nD) : k0_off3 d = ![d.val, 0, 0] := by rw [k0_off3_eq, linear_lt]
theorem off2_eq (d : Dev nD) : k0_off2 d = ![d.val] := by rw [k0_off2_eq, linear_lt]

/-- Where slot `j`'s element `(a, b)` lies. -/
theorem slot_emb (j : Dev nD) (a : Fin 2) (b : Fin 2048) : (slotM j).view.emb (ValueIdx.ix2 a b) = ValueIdx.ix3 (j : Fin 16) a b := by
  show (Rect.unit (s := S16x2x2048) ![j.val, 0, 0] S1x2x2048.size (inb_slot j)).emb (Shape.reshapeEquiv _ (ValueIdx.ix2 a b)) = _
  rw [ValueIdx.reshapeEquiv_ix2_1ab]
  funext x
  fin_cases x <;> (refine Fin.ext ?_; simp [Rect.emb, Rect.unit, LoadRect.idx, ValueIdx.ix3])

theorem gathered_slot (j : Dev nD) (x : S2x2048.Idx) : gathered m ((slotM j).view.emb x) = accV m j x := by
  obtain ⟨a, b, rfl⟩ : ∃ a b, x = ValueIdx.ix2 a b := ⟨x 0, x 1, by funext i; fin_cases i <;> rfl⟩
  rw [slot_emb]; rfl

/-- Device `j`'s partial sums written into slot `j` leave there what the gathered buffer holds there. -/
theorem slot_written (c j : Dev nD) (fd : Buf (Elt F) ((c : Thread nD τ).loc cc0_scratch3)) :
    ((slotM j).view.loc (c : Thread nD τ) ↦[(slotM j).view.set]{fullShare}
        (slotM j).view.write (Elt F) fd (accM.view.read (Elt F) (accV m j)) Finset.univ : sProp 𝕄)
      = slotPts c j (gathered m) := by
  unfold slotPts
  refine pointsTo_congr fun i hi => ?_
  obtain ⟨x, _, rfl⟩ := Finset.mem_map.mp hi
  rw [View.write_emb_of_mem _ _ (Finset.mem_univ x), gathered_slot]; rfl

/-! ## The accumulator's shares -/

theorem acc_shares (c : Dev nD) : (accPts m c fullShare : sProp 𝕄) = bigSep Finset.univ fun j : Dev nD => accPts m c (lent j) := by
  unfold accPts lent
  exact pointsTo_piecesOf _ _ (o := 16) (by decide) fullShare

theorem accPts_whole (c : Dev nD) : (accPts m c fullShare : sProp 𝕄) = (((c : Thread nD τ).loc cc0_scratch2) ↦{fullShare} accV m c) := by
  unfold accPts; rw [View.set_whole]

/-! ## Halves of a scratch buffer -/

section Halves

variable (b : Memref sig .tc .vmem S512x2048 .f32)

theorem half_disjoint : Disjoint (halfOf b 0).view.set (halfOf b 1).view.set := by
  rw [show (halfOf b 0).view.set = _ from View.set_slice _ (halfR 0), show (halfOf b 1).view.set = _ from View.set_slice _ (halfR 1)]
  exact (Finset.disjoint_map _).mpr (Rect.unit_disjoint (0 : Fin 2) (by decide))

theorem half_subset : (halfOf b 1).view.set ⊆ Finset.univ \ (halfOf b 0).view.set := fun i hi =>
  Finset.mem_sdiff.mpr ⟨Finset.mem_univ _, fun h => Finset.disjoint_left.mp (half_disjoint b) h hi⟩

/-- A scratch buffer comes apart in its two halves and whatever else it holds; -/
theorem halves_split (c : Dev nD) (f : Buf (Elt F) (b.view.loc (c : Thread nD τ))) :
    (b.view.loc (c : Thread nD τ) ↦{fullShare} f : sProp 𝕄)
      ⊢ iprop(((halfOf b 0).view.loc (c : Thread nD τ) ↦[(halfOf b 0).view.set]{fullShare} f)
        ∗ ((halfOf b 1).view.loc (c : Thread nD τ) ↦[(halfOf b 1).view.set]{fullShare} f)
        ∗ (b.view.loc (c : Thread nD τ) ↦[(Finset.univ \ (halfOf b 0).view.set) \ (halfOf b 1).view.set]{fullShare} f)) :=
  (pointsTo_split_subset (Finset.subset_univ (halfOf b 0).view.set)).1.trans (sep_mono_right (pointsTo_split_subset (half_subset b)).1)

/-- and together again, each at contents of its own. -/
theorem halves_join (c : Dev nD) (f f₀ f₁ : Buf (Elt F) (b.view.loc (c : Thread nD τ))) :
    iprop(((halfOf b 0).view.loc (c : Thread nD τ) ↦[(halfOf b 0).view.set]{fullShare} f₀)
        ∗ ((halfOf b 1).view.loc (c : Thread nD τ) ↦[(halfOf b 1).view.set]{fullShare} f₁)
        ∗ (b.view.loc (c : Thread nD τ) ↦[(Finset.univ \ (halfOf b 0).view.set) \ (halfOf b 1).view.set]{fullShare} f))
      ⊢ (iprop(∃ g, b.view.loc (c : Thread nD τ) ↦{fullShare} g) : sProp 𝕄) := by
  refine (sep_mono_right (pointsTo_join_subset (half_subset b))).trans ((pointsTo_join_subset (Finset.subset_univ (halfOf b 0).view.set)).trans ?_)
  iintro H; iexists _; iexact H

end Halves

/-! ## Rows of an argument -/

/-- An argument, held whole, lends either half of a device's rows at half a share, and takes them back. -/
theorem rows_lend (a : Memref sig .tc .hbm S4096x2048 .f32) (c : Dev nD) (f : Buf (Elt F) (a.view.loc (c : Thread nD τ))) :
    (a.view.loc (c : Thread nD τ) ↦{fullShare} f : sProp 𝕄)
      ⊣⊢ iprop((((rowsOf a c 0).view.loc (c : Thread nD τ) ↦[(rowsOf a c 0).view.set]{fullShare.left} f)
          ∗ (a.view.loc (c : Thread nD τ) ↦[Finset.univ \ (rowsOf a c 0).view.set]{fullShare.left} f))
        ∗ (((rowsOf a c 1).view.loc (c : Thread nD τ) ↦[(rowsOf a c 1).view.set]{fullShare.right} f)
          ∗ (a.view.loc (c : Thread nD τ) ↦[Finset.univ \ (rowsOf a c 1).view.set]{fullShare.right} f))) :=
  ⟨(pointsTo_share (PosShare.mem_left_op_right fullShare)).1.trans
      (BI.sep_mono (pointsTo_split_subset (Finset.subset_univ _)).1 (pointsTo_split_subset (Finset.subset_univ _)).1),
    (BI.sep_mono (pointsTo_split_subset (Finset.subset_univ _)).2 (pointsTo_split_subset (Finset.subset_univ _)).2).trans
      (pointsTo_share (PosShare.mem_left_op_right fullShare)).2⟩

end Cert.KernelIdeal.Hand

end
-- ==== Proof.KernelIdeal.Passes.lean ====
/-
What each pass of the body does, each proved once: one rule application for an incoming copy and for a wait, and an induction
over the list of devices for the signals, the transfers, the arrivals and the departures.
-/
module

public import proofs.«01_k».proof.Proof.KernelIdeal.Pieces

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` to an end where `Q` holds. -/
abbrev Runs (c : Dev nD) (p : P F) (Q : PUnit → sProp 𝕄) : sProp 𝕄 :=
  wp frame (wpE (defs₀ (F := F)) 𝒱₀ (c : Thread nD τ) none) Set.univ p Q

/-- Every cell's invariant, under the name the launch gave it, and that every cell has reached round 0. -/
def records (K : Dev nD × Kd → ℕ) : sProp 𝕄 :=
  iprop((bigSep Finset.univ fun ck : Dev nD × Kd => cellInv ER (Rd m) (K ck) (kcell ck))
    ∗ bigSep Finset.univ fun ck : Dev nD × Kd => reached ER (kcell ck) 0)

instance records_persistent (K : Dev nD × Kd → ℕ) : BI.Persistent (records m K) := by unfold records; infer_instance

variable (K : Dev nD × Kd → ℕ)

theorem inv_elim (ck : Dev nD × Kd) :
    (bigSep Finset.univ fun ck : Dev nD × Kd => (cellInv ER (Rd m) (K ck) (kcell ck) : sProp 𝕄)) ⊢ cellInv ER (Rd m) (K ck) (kcell ck) :=
  bigSep_elim (Finset.mem_univ ck)
theorem reached_elim (ck : Dev nD × Kd) :
    (bigSep Finset.univ fun ck : Dev nD × Kd => (reached ER (kcell ck) 0 : sProp 𝕄)) ⊢ reached ER (kcell ck) 0 :=
  bigSep_elim (Finset.mem_univ ck)
theorem inv_at (ck : Dev nD × Kd) : records m K ⊢ cellInv ER (Rd m) (K ck) (kcell ck) := by
  unfold records
  iintro ⟨H, -⟩
  iapply (inv_elim m K ck); iexact H
theorem reached_at (ck : Dev nD × Kd) : records m K ⊢ reached ER (kcell ck) 0 := by
  unfold records
  iintro ⟨-, H⟩
  iapply (reached_elim (F := F) ck); iexact H

/-- What the wait on receive semaphore `j` brings, and the wait on send semaphore `j`. -/
theorem pay_recv (c j : Dev nD) : payK m c 0 (kV j) = (slotPts c j (gathered m) : sProp 𝕄) := rfl
theorem pay_send (c j : Dev nD) : payK m c 0 (kS j) = (accPts m c (lent j) : sProp 𝕄) := rfl

variable (c : Dev nD) {Q : PUnit → sProp (MT nD τ sig Unit (Elt F) ℕ UU ℕ)}

/-! ## Waits -/

/-- A wait on one of the device's own semaphores: what its cell was to bring, and the cell closed at zero. -/
theorem wait_own (k : Fin 4 ⊕ Dev nD ⊕ Dev nD) {q : DmaSem sig} (hq : osem k = .dma q) {sp sp' : Space} {s₀ s : Shape} {e : EltTy}
    {src : Memref sig .tc sp s₀ e} {dst : Memref sig .tc sp' s e} {hsrc : src.view.WordExact} {hdst : dst.view.WordExact} (hN : dst.view.dmaCredit = amountK (.inr k))
    (O : CellTallies nD τ sig Unit) (W : Waits sig Unit) (p : P F) :
    iprop(records m K ∗ cred (tallyAt (kcell (c, .inr k)) () (amountK (.inr k))) ∗ owes (c : Thread nD τ) O W
        ∗ MayWait (c : Thread nD τ) (osem k) () O ∗ atPos ER (kcell (c, .inr k)) 0 ∅ 0)
      ⊢ iprop(((owes (c : Thread nD τ) O (insert (osem k, ()) W) ∗ semVal (kcell (c, .inr k)) 0 ∗ payK m c 0 (.inr k)) -∗ Runs c p Q)
          -∗ Runs c (.op (.waitDma2 q src dst hsrc hdst) fun _ => p) Q) := by
  have hx := expect_own m c k
  have hr := rest_own m c k
  have hi := inv_at m K (c, .inr k)
  have hl := duties_later m (kcell (c, .inr k))
  rw [show kcell (c, .inr k) = ((c : Thread nD τ), SemLoc.dma q) from congrArg (Prod.mk (c : Thread nD τ)) hq] at hx hr hi hl ⊢
  have hk : 0 + dst.view.dmaCredit = (Rd (F := F) m).expect ((c : Thread nD τ), SemLoc.dma q) 0 := by rw [Nat.zero_add, hx, hN]
  rw [hq, ← hN]
  iintro ⟨#HR, Hc, HO, Hm, Hat⟩ Hk
  iapply (Rounds.wp_wait_rest_token 𝒱₀ ER (Rd m) (c : Thread nD τ) none (κ := K (c, .inr k))
      (wpE_waitDma2_eq 𝒱₀ (c : Thread nD τ) none Set.univ) (Set.mem_univ _) () (O := O) (W := W) (R := 0) (m := 0) (T := ∅)
      hk) $$ [Hc HO Hm Hat]
  · isplitr; · iapply hi; iexact HR
    isplitl [Hc]; · iexact Hc
    isplitl [HO]; · iexact HO
    isplitl [Hm]; · iexact Hm
    iexact Hat
  iintro ⟨HO, Hat, -, Hp⟩
  ihave Hp := (Entails.of_eq hr) $$ Hp
  imod (Rounds.cell_close ER (Rd m) (Set.mem_univ (K (c, .inr k))) (fun h => h) (R := 0 + 1) hl) $$ [Hat] with Hz
  · isplitr; · iapply hi; iexact HR
    iexact Hat
  iapply Hk
  isplitl [HO]; · iexact HO
  isplitl [Hz]; · iexact Hz
  iexact Hp

/-- The barrier wait: this device's slot of every receive buffer, and the barrier closed at zero. -/
theorem wait_bar (l : List (Dev nD)) (W : Waits sig Unit) (p : P F) :
    iprop(records m K ∗ levAts L lv ∗ cred (tallyAt (kcell (c, kB)) () 16) ∗ owes (c : Thread nD τ) (owedSend c l) W ∗ atPos ER (kcell (c, kB)) 0 ∅ 0)
      ⊢ iprop(((owes (c : Thread nD τ) (owedSend c l) (insert (.reg barS, ()) W) ∗ semVal (kcell (c, kB)) 0
            ∗ bigSep Finset.univ fun d : Dev nD => iprop(∃ f, slotPts d c f)) -∗ Runs c p Q)
          -∗ Runs c (.op (.semWait barS 16) fun _ => p) Q) := by
  iintro ⟨#HR, Hlev, Hc, HO, Hat⟩ Hk
  iapply (Rounds.wp_wait_rest_token 𝒱₀ ER (Rd m) (c : Thread nD τ) none (κ := K (c, kB))
      (wpE_semWait_eq 𝒱₀ (c : Thread nD τ) none Set.univ) (Set.mem_univ _) () (O := owedSend c l) (W := W) (R := 0) (m := 0) (T := ∅)
      (by rw [Nat.zero_add, expect_bar])) $$ [Hc HO Hlev Hat]
  · isplitr; · iapply (inv_at m K (c, kB)); iexact HR
    isplitl [Hc]; · iexact Hc
    isplitl [HO]; · iexact HO
    isplitl [Hlev]; · iapply (mayWait_mid c kB (by rw [lv_cell]) l); iexact Hlev
    iexact Hat
  iintro ⟨HO, Hat, -, Hp⟩
  ihave Hp := (Entails.of_eq (rest_bar m c)) $$ Hp
  imod (Rounds.cell_close ER (Rd m) (Set.mem_univ (K (c, kB))) (fun h => h) (R := 0 + 1) (duties_later m (kcell (c, kB)))) $$ [Hat] with Hz
  · isplitr; · iapply (inv_at m K (c, kB)); iexact HR
    iexact Hat
  iapply Hk
  isplitl [HO]; · iexact HO
  isplitl [Hz]; · iexact Hz
  iexact Hp

/-! ## Incoming copies -/

/-- A copy done leaves what `fetched` says. -/
theorem fetched_intro (a : Memref sig .tc .hbm S4096x2048 .f32) (b : Memref sig .tc .vmem S512x2048 .f32) (r : Fin 2) (sh : PosShare TreeShare)
    (fd : Buf (Elt F) ((halfOf b r).view.loc (c : Thread nD τ))) :
    iprop(((halfOf b r).view.loc (c : Thread nD τ) ↦[(halfOf b r).view.set]{fullShare}
          (halfOf b r).view.write (Elt F) fd ((rowsOf a c r).view.read (Elt F) (m ((rowsOf a c r).view.loc (c : Thread nD τ)))) Finset.univ)
        ∗ ((rowsOf a c r).view.loc (c : Thread nD τ) ↦[(rowsOf a c r).view.set]{sh} m ((rowsOf a c r).view.loc (c : Thread nD τ))))
      ⊢ (fetched m a b c r sh : sProp 𝕄) := by
  unfold fetched
  iintro ⟨Hd, Hs⟩
  isplitl [Hd]
  · iexists _
    isplitr
    · ipureintro; exact View.read_write_univ (v := (halfOf b r).view) fd ((rowsOf a c r).view.read (Elt F) (m ((rowsOf a c r).view.loc (c : Thread nD τ))))
    iexact Hd
  iexact Hs

/-- An incoming copy of half `r` of the device's rows, completing on incoming semaphore `q`. -/
theorem wp_fetch (a : Memref sig .tc .hbm S4096x2048 .f32) (b : Memref sig .tc .vmem S512x2048 .f32) (r : Fin 2) (q : Fin 4) (sh : PosShare TreeShare)
    (hN : (halfOf b r).view.dmaCredit = NI) (hpay : payK m c 0 (kI q) = fetched m a b c r sh) (fd : Buf (Elt F) ((halfOf b r).view.loc (c : Thread nD τ))) (p : P F) :
    iprop(records m K ∗ ((rowsOf a c r).view.loc (c : Thread nD τ) ↦[(rowsOf a c r).view.set]{sh} m ((rowsOf a c r).view.loc (c : Thread nD τ)))
        ∗ ((halfOf b r).view.loc (c : Thread nD τ) ↦[(halfOf b r).view.set]{fullShare} fd) ∗ dutyTok ER (kcell (c, kI q)) 0 (0 : Dev nD))
      ⊢ iprop((cred (tallyAt (kcell (c, kI q)) () NI) -∗ Runs c p Q) -∗ Runs c (fetch a b c r q p) Q) := by
  unfold fetch
  iintro ⟨#HR, Ha, Hb, Ht⟩ Hk
  iapply (Rounds.wp_copy_pointsTo 𝒱₀ ER (Rd m) (c : Thread nD τ) none (κ := K (c, kI q)) (r := 0) (d := (0 : Dev nD))
    (by rw [show ((c : Thread nD τ), SemLoc.dma (inSem q)) = kcell (c, kI q) from rfl, duties_cell]; exact Finset.mem_singleton_self _) () NI (show (halfOf b r).view.amount (.dma (inSem q)) = NI from hN)
    (by rw [show ((c : Thread nD τ), SemLoc.dma (inSem q)) = kcell (c, kI q) from rfl, amount_cell, amountK])
    (by
      rw [show ((c : Thread nD τ), SemLoc.dma (inSem q)) = kcell (c, kI q) from rfl, payload_cell, hpay]
      exact fetched_intro m c a b r sh fd)) $$ [Ha Hb Ht]
  · isplitr; · iapply (inv_at m K (c, kI q)); iexact HR
    isplitl [Ha]; · iexact Ha
    isplitl [Hb]; · iexact Hb
    isplitl [Ht]; · iexact Ht
    iapply (reached_at m K (c, kI q)); iexact HR
  iexact Hk

/-- The wait for it, while only arrivals are owed. -/
theorem wp_await (a : Memref sig .tc .hbm S4096x2048 .f32) (b : Memref sig .tc .vmem S512x2048 .f32) (r : Fin 2) (q : Fin 4) (sh : PosShare TreeShare)
    (hN : (halfOf b r).view.dmaCredit = NI) (hpay : payK m c 0 (kI q) = fetched m a b c r sh) (l : List (Dev nD)) (W : Waits sig Unit) (p : P F) :
    iprop(records m K ∗ levAts L lv ∗ cred (tallyAt (kcell (c, kI q)) () NI) ∗ owes (c : Thread nD τ) (owedSend c l) W ∗ atPos ER (kcell (c, kI q)) 0 ∅ 0)
      ⊢ iprop((((∃ W', owes (c : Thread nD τ) (owedSend c l) W') ∗ semVal (kcell (c, kI q)) 0 ∗ fetched m a b c r sh) -∗ Runs c p Q)
          -∗ Runs c (await a b c r q p) Q) := by
  unfold await
  iintro ⟨#HR, Hlev, Hc, HO, Hat⟩ Hk
  iapply (wait_own m K c (.inl q) (q := inSem q) rfl (hN.trans (by rw [amountK])) (owedSend c l) W p) $$ [Hc HO Hlev Hat]
  · isplitr; · iexact HR
    isplitl [Hc]; · rw [amountK]; iexact Hc
    isplitl [HO]; · iexact HO
    isplitl [Hlev]; · iapply (mayWait_mid c (kI q) (by rw [lv_cell]; exact Nat.zero_le _) l); iexact Hlev
    iexact Hat
  rw [hpay]
  iintro ⟨HO, Hz, Hp⟩
  iapply Hk
  isplitl [HO]; · iexists _; iexact HO
  isplitl [Hz]; · iexact Hz
  iexact Hp

/-! ## The signals -/

theorem wp_signals (R : CellTallies nD τ sig Unit) (W : Waits sig Unit) (p : P F) : ∀ l : List (Dev nD),
    iprop(records m K ∗ owes (c : Thread nD τ) (owedSig R l) W ∗ bigSepL l fun j => iprop(dutyTok ER (kcell (j, kB)) 0 c ∗ ∃ f, slotPts c j f))
      ⊢ iprop((owes (c : Thread nD τ) R W -∗ Runs c p Q) -∗ Runs c (signals l p) Q)
  | [] => by
    unfold owedSig signals
    iintro ⟨-, HO, -⟩ Hk
    iapply Hk; iexact HO
  | j :: l => by
    unfold owedSig signals
    rw [bigSepL_cons']
    iintro ⟨#HR, HO, ⟨Ht, Hs⟩, Hl⟩ Hk
    iapply (Rounds.wp_signal 𝒱₀ ER (Rd m) (c : Thread nD τ) none (dst := (j : Thread nD τ)) (κ := K (j, kB)) (r := 0)
        (d := c) (by rw [show ((j : Thread nD τ), SemLoc.reg barS) = kcell (j, kB) from rfl, duties_cell]; exact Finset.mem_univ _)
        (by rw [show ((j : Thread nD τ), SemLoc.reg barS) = kcell (j, kB) from rfl, amount_cell, amountK]) () (owedSig R l) rfl)
      $$ [HO Ht Hs]
    · isplitr; · iapply (inv_at m K (j, kB)); iexact HR
      isplitl [HO]; · iexact HO
      isplitl [Ht]; · iexact Ht
      isplitl [Hs]
      · rw [show ((j : Thread nD τ), SemLoc.reg barS) = kcell (j, kB) from rfl, payload_cell, payK]; iexact Hs
      iapply (reached_at m K (j, kB)); iexact HR
    iintro HO
    iapply (wp_signals R W p l) $$ [HO Hl]
    · isplitr; · iexact HR
      isplitl [HO]; · iexact HO
      iexact Hl
    iexact Hk

/-! ## The transfers -/

/-- One transfer of the accumulator to device `j`. -/
theorem wp_send_one (j : Dev nD) (M : Memref sig .tc .vmem S2x2048 .bf16) (hM : M = slotM c) (rs : DmaSem sig) (hrs : rs = recvSem c)
    {hsc : M.view.ref.isScScratch = false} {hsrc : accM.view.WordExact} {hdst : M.view.WordExact}
    {hsem : DmaTarget.Typed .vmem (.dma rs) (.remote (Dev.tc j : Thread nD τ) M (.dma (sendSem j)) hsc)}
    (O : CellTallies nD τ sig Unit) (W : Waits sig Unit) (p : P F) :
    iprop(records m K ∗ accPts m c (lent j) ∗ (∃ f, slotPts j c f) ∗ owes (c : Thread nD τ) (O + tallyAt (kcell (j, kV c)) () NS) W
        ∗ dutyTok ER (kcell (c, kS j)) 0 (0 : Dev nD) ∗ dutyTok ER (kcell (j, kV c)) 0 (0 : Dev nD))
      ⊢ iprop(((cred (tallyAt (kcell (c, kS j)) () NS) ∗ owes (c : Thread nD τ) O W) -∗ Runs c p Q)
          -∗ Runs c (.op (.enqueueDma accM (.remote (Dev.tc j : Thread nD τ) M (.dma (sendSem j)) hsc) (.dma rs) hsrc hdst hsem) fun _ => p) Q) := by
  subst hM hrs
  iintro ⟨#HR, Ha, ⟨%fd, Hs⟩, HO, Ht, Ht'⟩ Hk
  unfold accPts slotPts
  iapply (Rounds.wp_send_pointsTo 𝒱₀ ER (Rd m) (c : Thread nD τ) none (κ₁ := K (c, kS j)) (κ₂ := K (j, kV c))
    (r₁ := 0) (r₂ := 0) (d₁ := (0 : Dev nD)) (d₂ := (0 : Dev nD)) (fd := fd)
    (by rw [show ((c : Thread nD τ), SemLoc.dma (sendSem j)) = kcell (c, kS j) from rfl, duties_cell]; exact Finset.mem_singleton_self _)
    (by rw [show ((j : Thread nD τ), SemLoc.dma (recvSem c)) = kcell (j, kV c) from rfl, duties_cell]; exact Finset.mem_singleton_self _)
    () () NS (by unfold NS; rfl)
    (by rw [show ((c : Thread nD τ), SemLoc.dma (sendSem j)) = kcell (c, kS j) from rfl, amount_cell, amountK])
    (by rw [show ((j : Thread nD τ), SemLoc.dma (recvSem c)) = kcell (j, kV c) from rfl, amount_cell, amountK]) O rfl (W := W)
    (by rw [show ((c : Thread nD τ), SemLoc.dma (sendSem j)) = kcell (c, kS j) from rfl, payload_cell, payK]; exact BI.Entails.refl _)
    (by
      rw [show ((j : Thread nD τ), SemLoc.dma (recvSem c)) = kcell (j, kV c) from rfl, payload_cell, payK]
      exact Entails.of_eq (slot_written m j c fd))) $$ [Ha Hs HO Ht Ht']
  · isplitr; · iapply (inv_at m K (c, kS j)); iexact HR
    isplitr; · iapply (inv_at m K (j, kV c)); iexact HR
    isplitl [Ha]; · iexact Ha
    isplitl [Hs]; · iexact Hs
    isplitl [HO]; · iexact HO
    isplitl [Ht]; · iexact Ht
    isplitr; · iapply (reached_at m K (c, kS j)); iexact HR
    isplitl [Ht']; · iexact Ht'
    iapply (reached_at m K (j, kV c)); iexact HR
  iexact Hk

theorem wp_sends (W : Waits sig Unit) : ∀ (l : List (Dev nD)) (p : P F),
    iprop(records m K ∗ owes (c : Thread nD τ) (owedSend c l) W
        ∗ bigSepL l fun j => iprop(accPts m c (lent j) ∗ (∃ f, slotPts j c f)
            ∗ dutyTok ER (kcell (c, kS j)) 0 (0 : Dev nD) ∗ dutyTok ER (kcell (j, kV c)) 0 (0 : Dev nD)))
      ⊢ iprop(((owes (c : Thread nD τ) 0 W ∗ bigSepL l fun j => cred (tallyAt (kcell (c, kS j)) () NS)) -∗ Runs c p Q) -∗ Runs c (sends c l p) Q)
  | [], p => by
    unfold owedSend sends
    iintro ⟨-, HO, -⟩ Hk
    iapply Hk
    isplitl [HO]; · iexact HO
    rw [bigSepL_nil]; iempintro
  | j :: l, p => by
    unfold owedSend sends
    rw [bigSepL_cons', bigSepL_cons']
    iintro ⟨#HR, HO, ⟨Ha, Hs, Ht, Ht'⟩, Hl⟩ Hk
    iapply (wp_send_one m K c j _ (slotAt_eq _ _ c (off3_eq c)) _ (recvSemAt_eq _ _ c (off2_eq c)) (owedSend c l) W (sends c l p)) $$ [HO Ha Hs Ht Ht']
    · isplitr; · iexact HR
      isplitl [Ha]; · iexact Ha
      isplitl [Hs]; · iexact Hs
      isplitl [HO]; · iexact HO
      isplitl [Ht]; · iexact Ht
      iexact Ht'
    iintro ⟨Hc, HO⟩
    iapply (wp_sends W l p) $$ [HO Hl]
    · isplitr; · iexact HR
      isplitl [HO]; · iexact HO
      iexact Hl
    iintro ⟨HO, Hcs⟩
    iapply Hk
    isplitl [HO]; · iexact HO
    isplitl [Hc]; · iexact Hc
    iexact Hcs

/-! ## Arrivals and departures -/

theorem wp_arrivals (p : P F) : ∀ (l : List (Dev nD)) (W : Waits sig Unit),
    iprop(records m K ∗ owes (c : Thread nD τ) 0 W
        ∗ bigSepL l fun j => iprop(cred (tallyAt (kcell (c, kV j)) () NS) ∗ atPos ER (kcell (c, kV j)) 0 ∅ 0))
      ⊢ iprop((((∃ W', owes (c : Thread nD τ) 0 W') ∗ bigSepL l fun j => iprop(semVal (kcell (c, kV j)) 0 ∗ slotPts c j (gathered m))) -∗ Runs c p Q)
          -∗ Runs c (arrivals l p) Q)
  | [], W => by
    unfold arrivals
    iintro ⟨-, HO, -⟩ Hk
    iapply Hk
    isplitl [HO]; · iexists W; iexact HO
    rw [bigSepL_nil]; iempintro
  | j :: l, W => by
    unfold arrivals
    rw [bigSepL_cons', bigSepL_cons']
    iintro ⟨#HR, HO, ⟨Hc, Hat⟩, Hl⟩ Hk
    iapply (wait_own m K c (.inr (.inr j)) (q := recvSem j) rfl (by rw [amountK, NS]) 0 W (arrivals l p)) $$ [Hc HO Hat]
    · isplitr; · iexact HR
      isplitl [Hc]; · rw [amountK]; iexact Hc
      isplitl [HO]; · iexact HO
      isplitr; · rw [MayWait_zero]; iempintro
      iexact Hat
    iintro ⟨HO, Hz, Hp⟩
    iapply (wp_arrivals p l _) $$ [HO Hl]
    · isplitr; · iexact HR
      isplitl [HO]; · iexact HO
      iexact Hl
    iintro ⟨HO, Hs⟩
    iapply Hk
    isplitl [HO]; · iexact HO
    isplitl [Hz Hp]
    · isplitl [Hz]; · iexact Hz
      iapply (Entails.of_eq (pay_recv m c j)); iexact Hp
    iexact Hs

theorem wp_departures (p : P F) : ∀ (l : List (Dev nD)) (W : Waits sig Unit),
    iprop(records m K ∗ owes (c : Thread nD τ) 0 W
        ∗ bigSepL l fun j => iprop(cred (tallyAt (kcell (c, kS j)) () NS) ∗ atPos ER (kcell (c, kS j)) 0 ∅ 0))
      ⊢ iprop((((∃ W', owes (c : Thread nD τ) 0 W') ∗ bigSepL l fun j => iprop(semVal (kcell (c, kS j)) 0 ∗ accPts m c (lent j))) -∗ Runs c p Q)
          -∗ Runs c (departures c l p) Q)
  | [], W => by
    unfold departures
    iintro ⟨-, HO, -⟩ Hk
    iapply Hk
    isplitl [HO]; · iexists W; iexact HO
    rw [bigSepL_nil]; iempintro
  | j :: l, W => by
    unfold departures
    rw [bigSepL_cons', bigSepL_cons']
    iintro ⟨#HR, HO, ⟨Hc, Hat⟩, Hl⟩ Hk
    iapply (wait_own m K c (.inr (.inl j)) (q := sendSem j) rfl (by rw [amountK, NS]) 0 W (departures c l p)) $$ [Hc HO Hat]
    · isplitr; · iexact HR
      isplitl [Hc]; · rw [amountK]; iexact Hc
      isplitl [HO]; · iexact HO
      isplitr; · rw [MayWait_zero]; iempintro
      iexact Hat
    iintro ⟨HO, Hz, Hp⟩
    iapply (wp_departures p l _) $$ [HO Hl]
    · isplitr; · iexact HR
      isplitl [HO]; · iexact HO
      iexact Hl
    iintro ⟨HO, Hs⟩
    iapply Hk
    isplitl [HO]; · iexact HO
    isplitl [Hz Hp]
    · isplitl [Hz]; · iexact Hz
      iapply (Entails.of_eq (pay_send m c j)); iexact Hp
    iexact Hs

end Cert.KernelIdeal.Hand

end
-- ==== Proof.KernelIdeal.Body.lean ====
/-
The body run once, at a symbolic device: what it starts from, what it leaves, and the run between, the values in it.
-/
module

public import proofs.«01_k».proof.Proof.KernelIdeal.Passes

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Over all devices, and over their list -/

theorem on_devs (Φ : Dev nD → sProp 𝕄) : bigSep Finset.univ Φ = bigSepL devs Φ :=
  bigSep_univ_eq_bigSepL devs (by decide) (by decide) Φ

/-- Two families over the devices are one over their list. -/
theorem pair_devs (Φ Ψ : Dev nD → sProp 𝕄) :
    iprop(bigSep Finset.univ Φ ∗ bigSep Finset.univ Ψ) = (bigSepL devs fun j => iprop(Φ j ∗ Ψ j)) := by
  rw [← on_devs, bigSep_sep']

/-- What the sixteen transfers take, collected. -/
theorem four_devs (Φ Ψ X Y : Dev nD → sProp 𝕄) :
    iprop(bigSep Finset.univ Φ ∗ bigSep Finset.univ Ψ ∗ bigSep Finset.univ X ∗ bigSep Finset.univ Y)
      = (bigSepL devs fun j => iprop(Φ j ∗ Ψ j ∗ X j ∗ Y j)) := by
  rw [← on_devs, bigSep_sep', bigSep_sep', bigSep_sep']

theorem on_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The receive buffer given away, each slot at whatever it holds. -/
theorem slots_away (c : Dev nD) (f : Buf (Elt F) ((c : Thread nD τ).loc cc0_scratch3)) :
    (((c : Thread nD τ).loc cc0_scratch3) ↦{fullShare} f : sProp 𝕄) ⊢ bigSep Finset.univ fun j : Dev nD => iprop(∃ f, slotPts c j f) := by
  rw [recv_slots]
  exact bigSep_mono fun j _ => exists_intro (Φ := fun f => (slotPts c j f : sProp 𝕄)) f

/-! ## What device `c` starts with, and what it ends with -/

/-- Device `c`'s positions on its own cells and the tokens of the duties it pays. -/
def lin (c : Dev nD) : sProp 𝕄 :=
  iprop(atPos ER (kcell (c, kB)) 0 ∅ 0
    ∗ (bigSep Finset.univ fun q : Fin 4 => atPos ER (kcell (c, kI q)) 0 ∅ 0)
    ∗ (bigSep Finset.univ fun j : Dev nD => atPos ER (kcell (c, kS j)) 0 ∅ 0)
    ∗ (bigSep Finset.univ fun j : Dev nD => atPos ER (kcell (c, kV j)) 0 ∅ 0)
    ∗ (bigSep Finset.univ fun j : Dev nD => dutyTok ER (kcell (j, kB)) 0 c)
    ∗ (bigSep Finset.univ fun q : Fin 4 => dutyTok ER (kcell (c, kI q)) 0 (0 : Dev nD))
    ∗ (bigSep Finset.univ fun j : Dev nD => dutyTok ER (kcell (c, kS j)) 0 (0 : Dev nD))
    ∗ (bigSep Finset.univ fun j : Dev nD => dutyTok ER (kcell (j, kV c)) 0 (0 : Dev nD)))

/-- The arguments the body reads. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))

/-- What the launch's global step leaves device `c`, under the names the cells' invariants got. -/
def shared (c : Dev nD) : sProp 𝕄 := iprop(∃ K, records m K ∗ lin c)

def start (c : Dev nD) : sProp 𝕄 :=
  iprop(shared m c ∗ cred (tallyAt (kcell (c, kB)) () 16) ∗ (bigSep Finset.univ fun j : Dev nD => cred (tallyAt (kcell (c, kV j)) () NS))
    ∗ levAts L lv ∗ args m c)

/-- The four scratch buffers, each at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Every semaphore of the protocol back at zero. -/
def closed (c : Dev nD) : sProp 𝕄 :=
  iprop(semVal (kcell (c, kB)) 0 ∗ (bigSep Finset.univ fun q : Fin 4 => semVal (kcell (c, kI q)) 0)
    ∗ (bigSep Finset.univ fun j : Dev nD => semVal (kcell (c, kS j)) 0) ∗ (bigSep Finset.univ fun j : Dev nD => semVal (kcell (c, kV j)) 0))

def Φ₀ (c : Dev nD) : sProp 𝕄 := iprop(start m c ∗ scratches c)
def Φ₁ (c : Dev nD) : sProp 𝕄 := iprop(scratches c ∗ args m c ∗ closed c)

/-- The proof data of the launch on device `c`: one point, its one window the result. -/
def dats (_ : Fin 1) (c : Dev nD) : Dat τ (Elt F) Unit ℕ UU ℕ cfg0 c where
  A w := m ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The loads and the stores -/

section Steps

variable (c : Dev nD) {Q : PUnit → sProp (MT nD τ sig Unit (Elt F) ℕ UU ℕ)}

theorem zero₂ : (![0, 0] : Fin 2 → Nat) = fun _ => 0 := funext fun a => by fin_cases a <;> rfl
theorem zero₃ : (![0, 0, 0] : Fin 3 → Nat) = fun _ => 0 := funext fun a => by fin_cases a <;> rfl

/-- Both loads of half `r`: each gives what the half reads. -/
theorem wp_loads (r : Fin 2) (f : Buf (Elt F) ((halfOf xS r).view.loc (c : Thread nD τ))) (g : Buf (Elt F) ((halfOf yS r).view.loc (c : Thread nD τ)))
    (k : Vec F S256x2048 .f32 → Vec F S256x2048 .f32 → P F) :
    iprop(((halfOf xS r).view.loc (c : Thread nD τ) ↦[(halfOf xS r).view.set]{fullShare} f) ∗ ((halfOf yS r).view.loc (c : Thread nD τ) ↦[(halfOf yS r).view.set]{fullShare} g))
      ⊢ iprop(((((halfOf xS r).view.loc (c : Thread nD τ) ↦[(halfOf xS r).view.set]{fullShare} f)
            ∗ ((halfOf yS r).view.loc (c : Thread nD τ) ↦[(halfOf yS r).view.set]{fullShare} g))
            -∗ Runs c (k ((halfOf xS r).view.read (Elt F) f) ((halfOf yS r).view.read (Elt F) g)) Q)
          -∗ Runs c (loads r k) Q) := by
  unfold loads
  iintro ⟨Hx, Hy⟩ Hk
  iapply (wp_load 𝒱₀ (c : Thread nD τ) none Set.univ (m := xS) (r := (halfR r).toLoadRect) (S := (halfOf xS r).view.set)
    (by rw [show (halfOf xS r).view.set = _ from View.set_slice _ (halfR r)]; exact Finset.Subset.refl _)) $$ Hx
  iintro Hx
  iapply (wp_load 𝒱₀ (c : Thread nD τ) none Set.univ (m := yS) (r := (halfR r).toLoadRect) (S := (halfOf yS r).view.set)
    (by rw [show (halfOf yS r).view.set = _ from View.set_slice _ (halfR r)]; exact Finset.Subset.refl _)) $$ Hy
  iintro Hy
  iapply Hk
  isplitl [Hx]; · iexact Hx
  iexact Hy

/-- The store to the accumulator leaves the value there, whatever was there. -/
theorem wp_keep (v : Vec F S2x2048 .bf16) (f : Buf (Elt F) ((c : Thread nD τ).loc cc0_scratch2)) (p : P F) :
    (((c : Thread nD τ).loc cc0_scratch2) ↦{fullShare} f : sProp 𝕄)
      ⊢ iprop((((c : Thread nD τ).loc cc0_scratch2 ↦{fullShare} v) -∗ Runs c p Q) -∗ Runs c (keep v p) Q) := by
  unfold keep
  iintro H Hk
  iapply (wp_load 𝒱₀ (c : Thread nD τ) none Set.univ (m := accM) (Finset.subset_univ _)) $$ H
  iintro H
  iapply (wp_store 𝒱₀ (c : Thread nD τ) none Set.univ (m := accM) (r := accR) (Mk := Finset.univ) (Finset.subset_univ _)) $$ H
  iintro H
  rw [show (accM.access accR : View sig .tc _ _ _).write (Elt F) f v Finset.univ = v from Memref.write_access_unit_zero_univ (Elt F) cc0_scratch2 zero₂ _ f v]
  iapply Hk; iexact H

/-- The receive buffer read and the result stored. -/
theorem wp_total (g : Buf (Elt F) ((c : Thread nD τ).loc cc0_scratch3)) (f : Buf (Elt F) ((c : Thread nD τ).loc cc0_stg0_0)) (p : P F) :
    iprop((((c : Thread nD τ).loc cc0_scratch3) ↦{fullShare} g) ∗ (((c : Thread nD τ).loc cc0_stg0_0) ↦{fullShare} f))
      ⊢ iprop((((((c : Thread nD τ).loc cc0_scratch3) ↦{fullShare} g) ∗ (((c : Thread nD τ).loc cc0_stg0_0) ↦{fullShare} k0_pay3 g)) -∗ Runs c p Q)
          -∗ Runs c (total p) Q) := by
  unfold total
  iintro ⟨Hg, H⟩ Hk
  iapply (wp_load 𝒱₀ (c : Thread nD τ) none Set.univ (m := recvM) (Finset.subset_univ _)) $$ Hg
  iintro Hg
  rw [show recvM.view.readAt (Elt F) recvR.toLoadRect g = g from Memref.readAt_unit_zero (Elt F) cc0_scratch3 zero₃ _ g]
  iapply (wp_load 𝒱₀ (c : Thread nD τ) none Set.univ (m := oM) (Finset.subset_univ _)) $$ H
  iintro H
  iapply (wp_store 𝒱₀ (c : Thread nD τ) none Set.univ (m := oM) (r := accR) (Mk := Finset.univ) (Finset.subset_univ _)) $$ H
  iintro H
  rw [show (oM.access accR : View sig .tc _ _ _).write (Elt F) f (k0_pay3 g) Finset.univ = k0_pay3 g from Memref.write_access_unit_zero_univ (Elt F) cc0_stg0_0 zero₂ _ f _]
  iapply Hk
  isplitl [Hg]; · iexact Hg
  iexact H

end Steps

/-! ## The body -/

/-- What the body starts from; -/
def bodyPre (K : Dev nD × Kd → ℕ) (c : Dev nD) (W : Waits sig Unit) (f : Buf (Elt F) ((c : Thread nD τ).loc cc0_stg0_0)) : sProp 𝕄 :=
  iprop(records m K ∗ levAts L lv ∗ lin c ∗ cred (tallyAt (kcell (c, kB)) () 16) ∗ (bigSep Finset.univ fun j : Dev nD => cred (tallyAt (kcell (c, kV j)) () NS))
    ∗ args m c ∗ scratches c ∗ owes (c : Thread nD τ) (O₀ c) W ∗ (((c : Thread nD τ).loc cc0_stg0_0) ↦{fullShare} f))
/-- what it leaves. -/
def bodyPost (c : Dev nD) : sProp 𝕄 :=
  iprop(Φ₁ m c ∗ (∃ W, owes (c : Thread nD τ) 0 W) ∗ (((c : Thread nD τ).loc cc0_stg0_0) ↦{fullShare} outV m))

set_option maxHeartbeats 1600000 in
/-- The body on device `c`, from `bodyPre` to `bodyPost`: the incoming copies, the signals and the barrier, the partial sums,
    the transfers, the arrivals and the sum of what arrived, the departures. -/
theorem sound_body (K : Dev nD × Kd → ℕ) (c : Dev nD) (W : Waits sig Unit) (f : Buf (Elt F) ((c : Thread nD τ).loc cc0_stg0_0)) :
    bodyPre m K c W f ⊢ Runs c (bodyAt c) (fun _ => bodyPost m c) := by
  unfold bodyPre lin args scratches bodyAt
  rw [on_four, on_four]
  iintro ⟨#HR, #Hlev, ⟨HaB, ⟨HaI0, HaI1, HaI2, HaI3⟩, HaS, HaV, HtB, ⟨HtI0, HtI1, HtI2, HtI3⟩, HtS, HtV⟩, HcB, HcV, ⟨Hx, Hy⟩,
    ⟨⟨%f0, H0⟩, ⟨%f1, H1⟩, ⟨%f2, H2⟩, ⟨%f3, H3⟩⟩, HO, Hout⟩
  -- the arguments' rows and the scratch halves
  ihave Hx := (rows_lend xA c (m ((c : Thread nD τ).loc main_arg0))).1 $$ Hx
  icases Hx with ⟨⟨Hx0, Hxr0⟩, Hx1, Hxr1⟩
  ihave Hy := (rows_lend yA c (m ((c : Thread nD τ).loc main_arg1))).1 $$ Hy
  icases Hy with ⟨⟨Hy0, Hyr0⟩, Hy1, Hyr1⟩
  ihave H0 := (halves_split xS c f0) $$ H0
  icases H0 with ⟨H00, H01, H0r⟩
  ihave H1 := (halves_split yS c f1) $$ H1
  icases H1 with ⟨H10, H11, H1r⟩
  -- the incoming copies
  iapply (wp_fetch m K c xA xS 0 0 fullShare.left (by unfold NI; rfl) rfl f0 _) $$ [Hx0 H00 HtI0]
  · isplitr; · iexact HR
    isplitl [Hx0]; · iexact Hx0
    isplitl [H00]; · iexact H00
    iexact HtI0
  iintro HcI0
  iapply (wp_fetch m K c yA yS 0 1 fullShare.left (by unfold NI; rfl) rfl f1 _) $$ [Hy0 H10 HtI1]
  · isplitr; · iexact HR
    isplitl [Hy0]; · iexact Hy0
    isplitl [H10]; · iexact H10
    iexact HtI1
  iintro HcI1
  iapply (wp_fetch m K c xA xS 1 2 fullShare.right (by unfold NI; rfl) rfl f0 _) $$ [Hx1 H01 HtI2]
  · isplitr; · iexact HR
    isplitl [Hx1]; · iexact Hx1
    isplitl [H01]; · iexact H01
    iexact HtI2
  iintro HcI2
  iapply (wp_fetch m K c yA yS 1 3 fullShare.right (by unfold NI; rfl) rfl f1 _) $$ [Hy1 H11 HtI3]
  · isplitr; · iexact HR
    isplitl [Hy1]; · iexact Hy1
    isplitl [H11]; · iexact H11
    iexact HtI3
  iintro HcI3
  -- the signals, each with a slot of the receive buffer
  ihave H3 := (slots_away c f3) $$ H3
  ihave Hsig := (Entails.of_eq (pair_devs (fun j => dutyTok ER (kcell (j, kB)) 0 c) (fun j => iprop(∃ f, slotPts c j f)))) $$ [HtB H3]
  · isplitl [HtB]; · iexact HtB
    iexact H3
  iapply (wp_signals m K c (owedSend c devs) W _ devs) $$ [HO Hsig]
  · isplitr; · iexact HR
    isplitl [HO]; · iexact HO
    iexact Hsig
  iintro HO
  iapply (wait_bar m K c devs W _) $$ [HcB HO HaB]
  · isplitr; · iexact HR
    isplitr; · iexact Hlev
    isplitl [HcB]; · iexact HcB
    isplitl [HO]; · iexact HO
    iexact HaB
  iintro ⟨HO, HzB, Hslots⟩
  -- the first halves
  iapply (wp_await m K c xA xS 0 0 fullShare.left (by unfold NI; rfl) rfl devs _ _) $$ [HcI0 HO HaI0]
  · isplitr; · iexact HR
    isplitr; · iexact Hlev
    isplitl [HcI0]; · iexact HcI0
    isplitl [HO]; · iexact HO
    iexact HaI0
  unfold fetched
  iintro ⟨⟨%W1, HO⟩, HzI0, ⟨%g0, %hg0, H00⟩, Hx0⟩
  iapply (wp_await m K c yA yS 0 1 fullShare.left (by unfold NI; rfl) rfl devs _ _) $$ [HcI1 HO HaI1]
  · isplitr; · iexact HR
    isplitr; · iexact Hlev
    isplitl [HcI1]; · iexact HcI1
    isplitl [HO]; · iexact HO
    iexact HaI1
  unfold fetched
  iintro ⟨⟨%W2, HO⟩, HzI1, ⟨%g1, %hg1, H10⟩, Hy0⟩
  iapply (wp_loads c 0 g0 g1 _) $$ [H00 H10]
  · isplitl [H00]; · iexact H00
    iexact H10
  iintro ⟨H00, H10⟩
  -- the second halves
  iapply (wp_await m K c xA xS 1 2 fullShare.right (by unfold NI; rfl) rfl devs _ _) $$ [HcI2 HO HaI2]
  · isplitr; · iexact HR
    isplitr; · iexact Hlev
    isplitl [HcI2]; · iexact HcI2
    isplitl [HO]; · iexact HO
    iexact HaI2
  unfold fetched
  iintro ⟨⟨%W3, HO⟩, HzI2, ⟨%g2, %hg2, H01⟩, Hx1⟩
  iapply (wp_await m K c yA yS 1 3 fullShare.right (by unfold NI; rfl) rfl devs _ _) $$ [HcI3 HO HaI3]
  · isplitr; · iexact HR
    isplitr; · iexact Hlev
    isplitl [HcI3]; · iexact HcI3
    isplitl [HO]; · iexact HO
    iexact HaI3
  unfold fetched
  iintro ⟨⟨%W4, HO⟩, HzI3, ⟨%g3, %hg3, H11⟩, Hy1⟩
  iapply (wp_loads c 1 g2 g3 _) $$ [H01 H11]
  · isplitl [H01]; · iexact H01
    iexact H11
  iintro ⟨H01, H11⟩
  rw [hg0, hg1, hg2, hg3]
  -- the accumulator
  iapply (wp_keep c (accV m c) f2 _) $$ H2
  iintro H2
  ihave H2 := (Entails.of_eq ((accPts_whole m c).symm.trans (acc_shares m c))) $$ H2
  -- the transfers
  ihave Hsend := (Entails.of_eq (four_devs (fun j => accPts m c (lent j)) (fun j => iprop(∃ f, slotPts j c f))
      (fun j => dutyTok ER (kcell (c, kS j)) 0 (0 : Dev nD)) (fun j => dutyTok ER (kcell (j, kV c)) 0 (0 : Dev nD)))) $$ [H2 Hslots HtS HtV]
  · isplitl [H2]; · iexact H2
    isplitl [Hslots]; · iexact Hslots
    isplitl [HtS]; · iexact HtS
    iexact HtV
  iapply (wp_sends m K c W4 devs _) $$ [HO Hsend]
  · isplitr; · iexact HR
    isplitl [HO]; · iexact HO
    iexact Hsend
  iintro ⟨HO, HcS⟩
  -- the arrivals and their sum
  ihave Harr := (Entails.of_eq (pair_devs (fun j => cred (tallyAt (kcell (c, kV j)) () NS)) (fun j => atPos ER (kcell (c, kV j)) 0 ∅ 0))) $$ [HcV HaV]
  · isplitl [HcV]; · iexact HcV
    iexact HaV
  iapply (wp_arrivals m K c _ devs W4) $$ [HO Harr]
  · isplitr; · iexact HR
    isplitl [HO]; · iexact HO
    iexact Harr
  iintro ⟨⟨%W5, HO⟩, Harr⟩
  ihave Harr := (Entails.of_eq (pair_devs (fun j => semVal (kcell (c, kV j)) 0) (fun j => slotPts c j (gathered m))).symm) $$ Harr
  icases Harr with ⟨HzV, H3⟩
  ihave H3 := (Entails.of_eq (recv_slots c (gathered m)).symm) $$ H3
  iapply (wp_total c (gathered m) f _) $$ [H3 Hout]
  · isplitl [H3]; · iexact H3
    iexact Hout
  iintro ⟨H3, Hout⟩
  -- the departures
  ihave HcS := (Entails.of_eq (on_devs (fun j => cred (tallyAt (kcell (c, kS j)) () NS))).symm) $$ HcS
  ihave Hdep := (Entails.of_eq (pair_devs (fun j => cred (tallyAt (kcell (c, kS j)) () NS)) (fun j => atPos ER (kcell (c, kS j)) 0 ∅ 0))) $$ [HcS HaS]
  · isplitl [HcS]; · iexact HcS
    iexact HaS
  iapply (wp_departures m K c _ devs W5) $$ [HO Hdep]
  · isplitr; · iexact HR
    isplitl [HO]; · iexact HO
    iexact Hdep
  iintro ⟨HO, Hdep⟩
  ihave Hdep := (Entails.of_eq (pair_devs (fun j => semVal (kcell (c, kS j)) 0) (fun j => accPts m c (lent j))).symm) $$ Hdep
  icases Hdep with ⟨HzS, H2⟩
  ihave H2 := (Entails.of_eq ((acc_shares m c).symm.trans (accPts_whole m c))) $$ H2
  -- everything together again
  ihave H0 := (halves_join xS c f0 g0 g2) $$ [H00 H01 H0r]
  · isplitl [H00]; · iexact H00
    isplitl [H01]; · iexact H01
    iexact H0r
  ihave H1 := (halves_join yS c f1 g1 g3) $$ [H10 H11 H1r]
  · isplitl [H10]; · iexact H10
    isplitl [H11]; · iexact H11
    iexact H1r
  ihave Hx := (rows_lend xA c (m ((c : Thread nD τ).loc main_arg0))).2 $$ [Hx0 Hxr0 Hx1 Hxr1]
  · isplitl [Hx0 Hxr0]
    · isplitl [Hx0]; · iexact Hx0
      iexact Hxr0
    isplitl [Hx1]; · iexact Hx1
    iexact Hxr1
  ihave Hy := (rows_lend yA c (m ((c : Thread nD τ).loc main_arg1))).2 $$ [Hy0 Hyr0 Hy1 Hyr1]
  · isplitl [Hy0 Hyr0]
    · isplitl [Hy0]; · iexact Hy0
      iexact Hyr0
    isplitl [Hy1]; · iexact Hy1
    iexact Hyr1
  unfold Runs
  rw [wp_ret]; imodintro
  unfold bodyPost Φ₁ scratches args closed
  rw [on_four]
  isplitr [HO Hout]
  · isplitl [H0 H1 H2 H3]
    · isplitl [H0]; · iexact H0
      isplitl [H1]; · iexact H1
      isplitl [H2]; · iexists _; iexact H2
      iexists _; iexact H3
    isplitl [Hx Hy]
    · isplitl [Hx]; · iexact Hx
      iexact Hy
    isplitl [HzB]; · iexact HzB
    isplitl [HzI0 HzI1 HzI2 HzI3]
    · isplitl [HzI0]; · iexact HzI0
      isplitl [HzI1]; · iexact HzI1
      isplitl [HzI2]; · iexact HzI2
      iexact HzI3
    isplitl [HzS]; · iexact HzS
    iexact HzV
  isplitl [HO]; · iexact HO
  iexact Hout

/-! ## The library's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one window's staging buffer at contents `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

theorem body_entry (c : Dev nD) :
    iprop(Φ₀ m c ∗ (dats m 0 c).owesAt () t0_0.castSucc ∗ (∃ d, stg c ((dats m 0 c).before (0 : Fin 1) t0_0 d)))
      ⊢ (iprop(∃ K W f, bodyPre m K c W f) : sProp 𝕄) := by
  unfold Φ₀ start shared Dat.owesAt Pipeline.owesWithin stg
  rw [show (dats m 0 c).owed t0_0.castSucc = O₀ c from rfl]
  iintro ⟨⟨⟨⟨%K, #HR, Hl⟩, HcB, HcV, #Hlev, Ha⟩, Hs⟩, ⟨%W, %hW, HO⟩, ⟨%d, %f, %hf, Hout⟩⟩
  iexists K, W, f
  unfold bodyPre
  isplitr; · iexact HR
  isplitr; · iexact Hlev
  isplitl [Hl]; · iexact Hl
  isplitl [HcB]; · iexact HcB
  isplitl [HcV]; · iexact HcV
  isplitl [Ha]; · iexact Ha
  isplitl [Hs]; · iexact Hs
  isplitl [HO]; · iexact HO
  iexact Hout

theorem body_exit (c : Dev nD) :
    bodyPost m c ⊢ iprop(Φ₁ m c ∗ (dats m 0 c).owesAt () t0_0.succ ∗ stg c (outV m)) := by
  unfold bodyPost Dat.owesAt Pipeline.owesWithin stg
  rw [show (dats m 0 c).owed t0_0.succ = 0 from rfl]
  iintro ⟨HΦ, ⟨%W, HO⟩, Hout⟩
  isplitl [HΦ]; · iexact HΦ
  isplitl [HO]
  · iexists W
    isplitr; · ipureintro; exact fun _ _ => Or.inl trivial
    iexact HO
  iexists _; isplitr; · (ipureintro; rfl)
  iexact Hout

set_option maxRecDepth 65536 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show iprop(Φ₀ m c ∗ (dats m 0 c).owesAt () t0_0.castSucc ∗ (∃ d, stg c ((dats m 0 c).before (0 : Fin 1) t0_0 d)))
    ⊢ Runs c (cc0__body (F := F) (Memref.whole main_arg0) (Memref.isWhole_whole _) (Memref.whole main_arg1) (Memref.isWhole_whole _) (Memref.whole cc0_stg0_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6)
        (fun _ => iprop(Φ₁ m c ∗ (dats m 0 c).owesAt () t0_0.succ ∗ stg c (outV m)))
  rw [body_eq, Runs, wp_deviceId]
  refine (body_entry m c).trans ?_
  exact exists_elim fun K => exists_elim fun W => exists_elim fun f => (sound_body m K c W f).trans (wp_mono _ _ _ fun _ => body_exit m c)

end Cert.KernelIdeal.Hand

end
-- ==== Proof.KernelIdeal.Launch.lean ====
/-
The launch: what each device is dealt, the launch's credit, and the run of the whole mesh.
-/
module

public import proofs.«01_k».proof.Proof.KernelIdeal.Body
public import proofs.«01_k».proof.Proof.Gen.KernelIdeal.Points
public import Idealize.ShloMosaic.Lib.Pipeline.CollectiveSegs
public import Idealize.ShloMosaic.Lib.Quiescent

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sums over the protocol's semaphores -/

theorem on_own (Φ : Fin 4 ⊕ Dev nD ⊕ Dev nD → sProp 𝕄) : bigSep Finset.univ Φ
    = iprop((bigSep Finset.univ fun q => Φ (.inl q)) ∗ (bigSep Finset.univ fun j => Φ (.inr (.inl j))) ∗ (bigSep Finset.univ fun j => Φ (.inr (.inr j)))) := by
  rw [bigSep_univ_sum, bigSep_univ_sum]; rfl
theorem on_kinds (Φ : Kd → sProp 𝕄) : bigSep Finset.univ Φ
    = iprop(Φ kB ∗ (bigSep Finset.univ fun q => Φ (kI q)) ∗ (bigSep Finset.univ fun j => Φ (kS j)) ∗ (bigSep Finset.univ fun j => Φ (kV j))) := by
  rw [bigSep_univ_sum, on_own]
  exact congrArg (fun X : sProp 𝕄 => iprop(X ∗ _)) (bigSep_univ_eq_bigSepL [()] (by decide) (by decide) _)

/-- A family over pairs of devices, summed in either order. -/
theorem swap (Φ : Dev nD → Dev nD → sProp 𝕄) :
    (bigSep Finset.univ fun c : Dev nD => bigSep Finset.univ fun d : Dev nD => Φ c d) = bigSep Finset.univ fun d : Dev nD => bigSep Finset.univ fun c : Dev nD => Φ c d := by
  rw [← bigSep_univ_prod (fun p : Dev nD × Dev nD => Φ p.1 p.2), bigSep_univ_equiv (Equiv.prodComm (Dev nD) (Dev nD)), bigSep_univ_prod]
  rfl

/-! ## What the launch deals -/

def cells : Finset (GSem nD τ sig) := Finset.univ.map ⟨kcell, kcell_injective⟩

/-- A device's duties: on its barrier one for every device, and one on each other semaphore. -/
abbrev Td : Type := Dev nD ⊕ Fin 4 ⊕ Dev nD ⊕ Dev nD
abbrev dutyKind : Td → Kd
  | .inl _ => kB
  | .inr k => .inr k
abbrev dutyName : Td → Dev nD
  | .inl d => d
  | .inr _ => 0
abbrev tokOf (ct : Dev nD × Td) : GSem nD τ sig × ℕ × Dev nD := (kcell (ct.1, dutyKind ct.2), 0, dutyName ct.2)

theorem tokOf_injective : Function.Injective tokOf := by
  rintro ⟨c, t⟩ ⟨c', t'⟩ h
  have h1 := kcell_injective (congrArg Prod.fst h)
  have h2 : dutyName t = dutyName t' := congrArg (fun x => x.2.2) h
  have h3 : dutyKind t = dutyKind t' := congrArg Prod.snd h1
  refine Prod.ext (congrArg (fun x : Dev nD × Kd => x.1) h1) ?_
  rcases t with d | k <;> rcases t' with d' | k'
  · exact congrArg Sum.inl h2
  · exact absurd h3 Sum.inl_ne_inr
  · exact absurd h3 Sum.inr_ne_inl
  · exact congrArg Sum.inr (Sum.inr_injective h3)

def duts : Finset (GSem nD τ sig × ℕ × Dev nD) := Finset.univ.map ⟨tokOf, tokOf_injective⟩

def u₀ : UU :=
  (initOf (Pipeline.cells cfgs cellOf_inj) (Pipeline.launchToks cfgs cellOf_inj), initOf cells duts)

/-- The tokens of a device's own cells, as minted; -/
def minted (c : Dev nD) : sProp 𝕄 :=
  iprop((bigSep Finset.univ fun d : Dev nD => dutyTok ER (kcell (c, kB)) 0 d)
    ∗ (bigSep Finset.univ fun q : Fin 4 => dutyTok ER (kcell (c, kI q)) 0 (0 : Dev nD))
    ∗ (bigSep Finset.univ fun j : Dev nD => dutyTok ER (kcell (c, kS j)) 0 (0 : Dev nD))
    ∗ (bigSep Finset.univ fun j : Dev nD => dutyTok ER (kcell (c, kV j)) 0 (0 : Dev nD)))
/-- and those of the duties it pays. -/
def paid (c : Dev nD) : sProp 𝕄 :=
  iprop((bigSep Finset.univ fun j : Dev nD => dutyTok ER (kcell (j, kB)) 0 c)
    ∗ (bigSep Finset.univ fun q : Fin 4 => dutyTok ER (kcell (c, kI q)) 0 (0 : Dev nD))
    ∗ (bigSep Finset.univ fun j : Dev nD => dutyTok ER (kcell (c, kS j)) 0 (0 : Dev nD))
    ∗ (bigSep Finset.univ fun j : Dev nD => dutyTok ER (kcell (j, kV c)) 0 (0 : Dev nD)))

/-- A barrier's token `d` goes to device `d`, a receive semaphore's to the device it is for. -/
theorem minted_paid : (bigSep Finset.univ fun c : Dev nD => (minted c : sProp 𝕄)) ⊢ bigSep Finset.univ fun c : Dev nD => paid c := by
  unfold minted paid
  simp only [bigSep_sep']
  rw [swap (fun c d : Dev nD => (dutyTok ER (kcell (c, kB)) 0 d : sProp 𝕄)), swap (fun c j : Dev nD => (dutyTok ER (kcell (c, kV j)) 0 (0 : Dev nD) : sProp 𝕄))]

def G (c : Dev nD) : sProp 𝕄 :=
  iprop((bigSep Finset.univ fun k : Kd => roundState ER (Rd m) (kcell (c, k)) 0)
    ∗ (bigSep Finset.univ fun k : Kd => atPos ER (kcell (c, k)) 0 ∅ 0) ∗ (bigSep Finset.univ fun k : Kd => reached ER (kcell (c, k)) 0) ∗ minted c)

theorem fund_cells : BI.own (ER (initOf cells duts)) ⊢ (|==> bigSep Finset.univ (G m) : sProp 𝕄) := by
  have hX (Φ : GSem nD τ sig → sProp 𝕄) : bigSep cells Φ = bigSep Finset.univ fun c : Dev nD => bigSep Finset.univ fun k : Kd => Φ (kcell (c, k)) := by
    unfold cells; rw [bigSep_map, bigSep_univ_prod]; rfl
  have hT : bigSep duts (fun x => (dutyTok ER x.1 x.2.1 x.2.2 : sProp 𝕄)) = bigSep Finset.univ fun c : Dev nD => minted c := by
    unfold duts; rw [bigSep_map, bigSep_univ_prod]
    exact bigSep_congr fun c _ => by unfold minted; rw [bigSep_univ_sum, on_own]; rfl
  iintro HX
  imod (Rounds.fund ER (Rd m) cells duts) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSemFacts : Pipeline.OwnSemFacts cfg0.spec osem := by decide

theorem share_eq (c : Dev nD) (w : Fin cfg0.W) : (dats m 0 c).share w = fullShare := by unfold Dat.share; split <;> rfl

/-- The one semaphore the launch does not scope is the barrier. -/
theorem unscopedSems0_eq (c : Dev nD) : (unscopedSems0 c : sProp 𝕄) = semVal (kcell (c, kB)) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun q : Fin 4 => semVal (kcell (c, kI q)) 0)
      ∗ (bigSep Finset.univ fun j : Dev nD => semVal (kcell (c, kS j)) 0) ∗ (bigSep Finset.univ fun j : Dev nD => semVal (kcell (c, kV j)) 0)) := by
  unfold Pipeline.ownSems0; rw [on_own]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, on_kinds]
  iintro ⟨H, HB⟩
  isplitl [HB]; · iexact HB
  iexact H

/-- A device's cells put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Kd => atPos ER (kcell (c, k)) 0 ∅ 0) ∗ (bigSep Finset.univ fun k : Kd => reached ER (kcell (c, k)) 0) ∗ minted c) := by
  unfold G
  iintro ⟨Hos, Hus, Hst, Hrest⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  iexact Hrest

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and the tokens of the duties it pays are what its body starts with. -/
theorem lin_intro (K : Dev nD × Kd → ℕ) (c : Dev nD) :
    iprop(records m K ∗ (bigSep Finset.univ fun k : Kd => atPos ER (kcell (c, k)) 0 ∅ 0) ∗ paid c) ⊢ shared m c := by
  unfold shared lin paid
  rw [on_kinds]
  iintro ⟨#HR, ⟨HaB, HaI, HaS, HaV⟩, HtB, HtI, HtS, HtV⟩
  iexists K
  isplitr; · iexact HR
  isplitl [HaB]; · iexact HaB
  isplitl [HaI]; · iexact HaI
  isplitl [HaS]; · iexact HaS
  isplitl [HaV]; · iexact HaV
  isplitl [HtB]; · iexact HtB
  isplitl [HtI]; · iexact HtI
  isplitl [HtS]; · iexact HtS
  iexact HtV

theorem regroup :
    (bigSep Finset.univ fun c : Dev nD => iprop((bigSep Finset.univ fun k => iprop(∃ κ : ℕ, cellInv ER (Rd m) κ (kcell (c, k))))
          ∗ (bigSep Finset.univ fun k : Kd => atPos ER (kcell (c, k)) 0 ∅ 0) ∗ (bigSep Finset.univ fun k : Kd => reached ER (kcell (c, k)) 0) ∗ minted c) : sProp 𝕄)
      ⊢ bigSep Finset.univ (shared m) := by
  rw [bigSep_sep', bigSep_sep', bigSep_sep', ← bigSep_univ_prod (fun ck : Dev nD × Kd => iprop(∃ κ : ℕ, cellInv ER (Rd m) κ (kcell ck))),
    ← bigSep_univ_prod (fun ck : Dev nD × Kd => (reached ER (kcell ck) 0 : sProp 𝕄))]
  iintro ⟨HI, Hat, #HR, Htok⟩
  ihave HK := (BI.bigSep_exists_pi Finset.univ (fun (ck : Dev nD × Kd) (κ : ℕ) => (cellInv ER (Rd m) κ (kcell ck) : sProp 𝕄))) $$ HI
  icases HK with ⟨%K, #HI⟩
  ihave Htk := (minted_paid (F := F)) $$ Htok
  iapply (bigSep_with_persistent (R := records m K) fun c _ => lin_intro m K c)
  isplitr
  · unfold records; isplitl; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (shared m) :=
  ((bigSep_mono fun c _ => core_alloc m c).trans (bigSep_fupd _ _)).trans (BI.fupd_mono (regroup m))

/-! ## The launch credit -/

theorem devs_count : ∀ c : Dev nD, devs.count c = 1 := by decide

theorem kcell_kB {c j : Dev nD} {k : Kd} : Iff (kcell (c, k) = kcell (j, kB)) (c = j ∧ k = kB) :=
  ⟨fun h => ⟨congrArg Prod.fst (kcell_injective h), congrArg Prod.snd (kcell_injective h)⟩, fun ⟨h, h'⟩ => by rw [h, h']⟩
theorem kcell_kV {c j d : Dev nD} {k : Kd} : Iff (kcell (c, k) = kcell (j, kV d)) (c = j ∧ k = kV d) :=
  ⟨fun h => ⟨congrArg Prod.fst (kcell_injective h), congrArg Prod.snd (kcell_injective h)⟩, fun ⟨h, h'⟩ => by rw [h, h']⟩

/-- What device `d` owes a cell of device `c`: an arrival for every time `c` is listed, if the cell is the one for `d`; -/
theorem owedSend_apply (d c : Dev nD) (k : Kd) : ∀ l : List (Dev nD), owedSend d l (kcell (c, k)) () = l.count c * (if k = kV d then NS else 0)
  | [] => by unfold owedSend; rw [List.count_nil, Nat.zero_mul]; rfl
  | j :: l => by
    unfold owedSend
    rw [Pi.add_apply, Finsupp.add_apply, tallyAt_apply, owedSend_apply d c k l, List.count_cons, Nat.add_mul]
    congr 1
    by_cases h : c = j
    · subst h
      rw [if_pos (beq_self_eq_true c), Nat.one_mul]
      by_cases hk : k = kV d
      · rw [if_pos ⟨kcell_kV.mpr ⟨rfl, hk⟩, rfl⟩, if_pos hk]
      · rw [if_neg (fun h => hk (kcell_kV.mp h.1).2), if_neg hk]
    · rw [if_neg (fun h' => h (kcell_kV.mp h'.1).1), if_neg (fun h' => h (eq_of_beq h').symm), Nat.zero_mul]
/-- and a unit for every time it is listed, if the cell is the barrier. -/
theorem owedSig_apply (R : CellTallies nD τ sig Unit) (c : Dev nD) (k : Kd) : ∀ l : List (Dev nD),
    owedSig R l (kcell (c, k)) () = R (kcell (c, k)) () + l.count c * (if k = kB then 1 else 0)
  | [] => by unfold owedSig; rw [List.count_nil, Nat.zero_mul]; rfl
  | j :: l => by
    unfold owedSig
    rw [Pi.add_apply, Finsupp.add_apply, tallyAt_apply, owedSig_apply R c k l, List.count_cons, Nat.add_mul, Nat.add_assoc]
    congr 2
    by_cases h : c = j
    · subst h
      rw [if_pos (beq_self_eq_true c), Nat.one_mul]
      by_cases hk : k = kB
      · rw [if_pos ⟨kcell_kB.mpr ⟨rfl, hk⟩, rfl⟩, if_pos hk]
      · rw [if_neg (fun h => hk (kcell_kB.mp h.1).2), if_neg hk]
    · rw [if_neg (fun h' => h (kcell_kB.mp h'.1).1), if_neg (fun h' => h (eq_of_beq h').symm), Nat.zero_mul]

theorem O₀_apply (d c : Dev nD) (k : Kd) : O₀ d (kcell (c, k)) () = (if k = kV d then NS else 0) + (if k = kB then 1 else 0) := by
  unfold O₀; rw [owedSig_apply, owedSend_apply, devs_count, Nat.one_mul, Nat.one_mul]

theorem launch_bar (c : Dev nD) :
    tallyOn (kcell (c, kB)) (launchCredit (Pipeline.owing O₀) 0 (kcell (c, kB))) = (tallyAt (kcell (c, kB)) () 16 : CellTallies nD τ sig Unit) := by
  unfold tallyAt; refine congrArg _ (Finsupp.ext fun u => ?_); cases u
  rw [Pipeline.launchCredit_owing, Finsupp.single_eq_same, Finset.sum_congr rfl fun d _ => O₀_apply d c kB]
  rw [Finset.sum_congr rfl fun d _ => show (if kB = kV d then NS else 0) + (if kB = kB then 1 else 0) = 1 by
    rw [if_neg Sum.inl_ne_inr, if_pos rfl]]
  rw [Finset.sum_const, Finset.card_univ, Fintype.card_fin]; rfl

theorem launch_recv (c j : Dev nD) :
    tallyOn (kcell (c, kV j)) (launchCredit (Pipeline.owing O₀) 0 (kcell (c, kV j))) = (tallyAt (kcell (c, kV j)) () NS : CellTallies nD τ sig Unit) := by
  unfold tallyAt; refine congrArg _ (Finsupp.ext fun u => ?_); cases u
  rw [Pipeline.launchCredit_owing, Finsupp.single_eq_same, Finset.sum_congr rfl fun d _ => O₀_apply d c (kV j)]
  rw [Finset.sum_congr rfl fun d _ => show (if kV j = kV d then NS else 0) + (if kV j = kB then 1 else 0) = if j = d then NS else 0 by
    rw [if_neg (show kV j ≠ kB from Sum.inr_ne_inl), Nat.add_zero]
    exact if_congr ⟨fun h => Sum.inr_injective (Sum.inr_injective (Sum.inr_injective h)), fun h => by rw [h]⟩ rfl rfl]
  rw [Finset.sum_ite_eq Finset.univ j fun _ => NS, if_pos (Finset.mem_univ _)]

theorem creds (c : Dev nD) :
    (Pipeline.launchCred O₀ c : sProp 𝕄) ⊢ iprop(cred (tallyAt (kcell (c, kB)) () 16) ∗ bigSep Finset.univ fun j : Dev nD => cred (tallyAt (kcell (c, kV j)) () NS)) := by
  unfold Pipeline.launchCred
  refine (bigSep_subset (Finset.subset_univ (Finset.univ.map ⟨csem, csem_injective⟩))).trans ?_
  rw [bigSep_map, on_kinds]
  show iprop(cred (tallyOn (kcell (c, kB)) (launchCredit (Pipeline.owing O₀) 0 (kcell (c, kB)))) ∗ _ ∗ _
    ∗ bigSep Finset.univ fun j : Dev nD => cred (tallyOn (kcell (c, kV j)) (launchCredit (Pipeline.owing O₀) 0 (kcell (c, kV j))))) ⊢ _
  rw [launch_bar, bigSep_congr (s := Finset.univ) fun (j : Dev nD) _ => congrArg cred (launch_recv c j)]
  iintro ⟨HB, -, -, HV⟩
  isplitl [HB]; · iexact HB
  iexact HV

/-! ## The launch theorem's side conditions -/

/-- The argument the body does not read. -/
def spare (c : Dev nD) : sProp 𝕄 := ((c : Thread nD τ).loc main_arg2) ↦{fullShare} m ((c : Thread nD τ).loc main_arg2)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m c)
      ⊢ |={Set.univ}=> iprop(start m c ∗ spare m c) := by
  rw [Pipeline.unscopedRestP_none, unscopedRest0_eq]
  iintro ⟨⟨Hx, Hy, Hz⟩, Hlev, Hcr, -, HG⟩
  ihave Hc := (creds (F := F) c) $$ Hcr
  icases Hc with ⟨HB, HV⟩
  imodintro
  unfold start args spare
  isplitr [Hz]
  · isplitl [HG]; · iexact HG
    isplitl [HB]; · iexact HB
    isplitl [HV]; · iexact HV
    isplitl [Hlev]; · iexact Hlev
    isplitl [Hx]; · iexact Hx
    iexact Hy
  iexact Hz

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- What a device hands on at its end: its barrier at zero, and the arguments it read. -/
def left (c : Dev nD) : sProp 𝕄 := iprop(unscopedSems0 c ∗ args m c)

theorem phi1_exit (c : Dev nD) :
    (dats m 0 c).Φ (Fin.last cfg0.N) ⊢ iprop(left m c ∗ Pipeline.ownSems0 osem c ∗ Pipeline.scopedRest cfg0.spec c) := by
  unfold left
  rw [show (dats m 0 c).Φ (Fin.last cfg0.N) = Φ₁ m c from rfl, scopedRest0_eq, ownSems0_eq, unscopedSems0_eq]
  unfold Φ₁ scratches closed
  iintro ⟨Hr, Ha, HzB, HzR⟩
  isplitl [HzB Ha]
  · isplitl [HzB]; · iexact HzB
    iexact Ha
  isplitl [HzR]; · iexact HzR
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The three arguments' places on device `c`. -/
abbrev argLoc (c : Dev nD) : Fin 3 → Loc nD τ sig
  | 0 => (c : Thread nD τ).loc main_arg0
  | 1 => (c : Thread nD τ).loc main_arg1
  | 2 => (c : Thread nD τ).loc main_arg2

theorem on_three (Φ : Fin 3 → sProp 𝕄) : bigSep Finset.univ Φ = iprop(Φ 0 ∗ Φ 1 ∗ Φ 2) :=
  bigSep_univ_eq_bigSepL [0, 1, 2] (by decide) (by decide) Φ

theorem args_all (c : Dev nD) : iprop(args m c ∗ spare m c) ⊢ (bigSep Finset.univ fun i : Fin 3 => (argLoc c i) ↦{fullShare} m (argLoc c i) : sProp 𝕄) := by
  rw [on_three]
  unfold args spare
  iintro ⟨⟨H0, H1⟩, H2⟩
  isplitl [H0]; · iexact H0
  isplitl [H1]; · iexact H1
  iexact H2

/-- What the end says of device `c` beside its result: its unscoped semaphores are at zero and its arguments are unchanged. -/
def QY (c : Dev nD) (s : MemSt nD τ sig (Elt F)) : Prop :=
  (∀ sm : SemLoc sig, sm.isScoped .tc = false → s.sem ((c.tc : Thread nD τ), sm) = 0) ∧ ∀ i : Fin 3, s.mem (argLoc c i) = m (argLoc c i)

theorem left_read (c : Dev nD) (s' : Phys nD τ sig (Elt F)) :
    iprop(left m c ∗ spare m c ∗ SI s') ⊢ |={Set.univ}=> (iprop(⌜QY m c s'.mem⌝ ∗ SI s') : sProp 𝕄) := by
  unfold left
  iintro ⟨⟨Hu, Ha⟩, Hz, HSI⟩
  ihave Ha := (args_all m c) $$ [Ha Hz]
  · isplitl [Ha]; · iexact Ha
    iexact Hz
  ihave H := (pointsTo_read_all Finset.univ (argLoc c) (fun i => m (argLoc c i)) s') $$ [Ha HSI]
  · isplitl [Ha]; · iexact Ha
    iexact HSI
  icases H with ⟨%ha, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, fun i => ha i (Finset.mem_univ i)⟩
  iexact HSI

/-! ## The run -/

/-- The one block of the window is its whole array, -/
theorem blk_read (f : (main_v1 : Ref sig .tc).ty.Contents (Elt F)) : ((cfg0.win 0).blk t0_0).view.read (Elt F) f = f :=
  Memref.read_access_unit_zero (Elt F) main_v1
    (show (fun a => (win0_0.index t0_0) a * main_v1.ty.shape.size a) = fun _ => 0 from funext fun a => by fin_cases a <;> decide)
    (fun a => by fin_cases a <;> decide) f

/-- so the array ends holding what the body stored. -/
theorem result_eq (c : Dev nD) : (dats m 0 c).arrAt 0 cfg0.N = outV m := by
  have hw : ((cfg0.win 0).blk t0_0).view.read (Elt F) ((dats m 0 c).arrAt 0 cfg0.N) = (dats m 0 c).flushed 0 t0_0 := by
    rw [show cfg0.N = t0_0.val + 1 from rfl, (dats m 0 c).arrAt_succ (0 : Fin 1) t0_0, flush0_0, if_pos rfl]
    exact View.read_write_univ _ _
  exact (blk_read _).symm.trans (hw.trans (funext fun _ => rfl))

/-- What the run ends with, on every device: the result, and the arguments unchanged. -/
def End (s : MemSt nD τ sig (Elt F)) : Prop :=
  ∀ c : Dev nD, s.mem ((c : Thread nD τ).loc main_v1) = outV m ∧ ∀ i : Fin 3, s.mem (argLoc c i) = m (argLoc c i)

set_option maxRecDepth 8000 in
/-- From any memory with its counters at zero, every run of the sixteen devices ends, each device's result array holding
    `outV m`, its arguments as they were and every semaphore at zero. -/
theorem run_main : θ_run defs (onTc (τ := τ) (main (F := F))) ⟨m, fun _ => 0, ρ⟩ (fun r => End m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := shared m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := spare m)
    (hX := start_intro m ρ) (hin := phi0_intro m) (hout := phi1_exit m)
    (QY := QY m)
    (hY := left_read m)
    (hQ := fun _ h hs => ⟨fun c => ⟨((h c).1 0).trans (result_eq m c), (h c).2.2.2⟩, sem_eq_zero hs fun c => (h c).2.2.1⟩)

end Cert.KernelIdeal.Hand

end
-- ==== Proof.Frames.lean ====
/-
What each of the three programs leaves of its arguments and of its counters: the arguments unchanged, every counter at
zero.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

theorem kernel : Cert.quiescent_Kernel (hKernel := Cert.Kernel.Gen.facts) := fun m g _ =>
  (θ_run _ _ _).mono (fun _ h => ⟨fun c => ⟨(h.1 c).2 0, (h.1 c).2 1, (h.1 c).2 2⟩, h.2⟩)
    (Cert.Kernel.Hand.run_main (F := Bits) m g)

theorem kernelIdeal : Cert.quiescent_KernelIdeal (hKernelIdeal := Cert.KernelIdeal.Gen.facts) := fun m g _ =>
  (θ_run _ _ _).mono (fun _ h => ⟨fun c => ⟨(h.1 c).2 0, (h.1 c).2 1, (h.1 c).2 2⟩, h.2⟩)
    (Cert.KernelIdeal.Hand.run_main (F := Ideal) m g)

/-- The reference has no semaphores, so that its counters read zero in every state. -/
theorem referenceIdeal : Cert.quiescent_ReferenceIdeal (hReferenceIdeal := Cert.ReferenceIdeal.Gen.facts) := fun m g _ =>
  (θ_run _ _ _).mono (fun _ h => ⟨fun c => (h c).2, sem_eq_zero_of_no_sems rfl _⟩)
    (Cert.ReferenceIdeal.Value.run (F := Ideal) m g)

end Cert.Frames

end
-- ==== Proof.Value.Rows.lean ====
/-
Where a device's rows are in the whole array: half `r` of device `c` is rows `512 c + 256 r` and the 255 after them.
-/
module

public import proofs.«01_k».proof.Proof.KernelIdeal.Schedule
public import Idealize.ShloMosaic.Lib.Layout
public import Idealize.ShloMosaic.Lib.Pointwise

@[expose] public section

noncomputable section

namespace Cert.Value

open Idealize.ShloMosaic Idealize.ShloMosaic.TcCoe
open Cert.KernelIdeal Cert.KernelIdeal.Gen Cert.KernelIdeal.Hand

abbrev SWhole : Shape := ⟨2, ![8192, 2048]⟩

/-- Row `i` of half `r` of device `c`, in the whole array. -/
def rowAt (c : Fin 16) (r : Fin 2) (i : Fin 256) : Fin 8192 := ⟨512 * c.val + 256 * r.val + i.val, by omega⟩

/-- The block of the whole array that device `c` holds. -/
abbrev blockOf (c : Dev nD) (X : SWhole.Idx → EReal) : S4096x2048.Idx → EReal :=
  Layout.blockN ⟨2, ![4096, 2048]⟩ ⟨2, ![8192, 2048]⟩ (Layout.meshBlock [2, 2, 4] ![[0], []] c) X

theorem meshLin_eq : ∀ c : Fin 16, Layout.meshLin [2, 2, 4] c.val [0] = c.val / 8 := by decide

theorem blockOf_row (c : Dev nD) (r : Fin 2) (X : SWhole.Idx → EReal) (i : Fin 256) (k : Fin 2048) (p : S4096x2048.Idx)
    (h0 : (p 0).val = k0_off1 c (BitVec.ofNat 32 (256 * r.val)) 0 + 1 * i.val)
    (h1 : (p 1).val = k0_off1 c (BitVec.ofNat 32 (256 * r.val)) 1 + 1 * k.val) :
    blockOf c X p = X (ix2 (rowAt c r i) k) := by
  rw [k0_off1_eq] at h0 h1
  have hc : c.val < 16 := c.isLt
  refine (Layout.blockN_apply _ X _ p).trans (congrArg X (funext fun a => ?_))
  fin_cases a
  · refine Fin.ext ?_
    have e := meshLin_eq c
    have h0' : (p 0).val = 2048 * ((c.val / 4) % 2) + 512 * (c.val % 4) + 256 * r.val + 1 * i.val := h0
    show Layout.meshLin [2, 2, 4] c.val [0] * 4096 + (p 0).val = 512 * c.val + 256 * r.val + i.val
    omega
  · refine Fin.ext ?_
    have h1' : (p 1).val = 0 + 1 * k.val := h1
    show 0 * 2048 + (p 1).val = k.val
    omega

variable (m : (ℓ : Loc nD τ sig) → Buf (Elt Ideal) ℓ) (X Y : SWhole.Idx → EReal)

theorem xHalf_apply (hX : ∀ c : Dev nD, m ((c : Thread nD τ).loc main_arg0) = blockOf c X) (c : Dev nD) (r : Fin 2)
    (i : Fin 256) (k : Fin 2048) : xHalf m c r (ix2 i k) = X (ix2 (rowAt c r i) k) := by
  refine Eq.trans ?_ (blockOf_row c r X i k
    ((Rect.unit (s := S4096x2048) (k0_off1 c (BitVec.ofNat 32 (256 * r.val))) S256x2048.size (k0_off1_inb c r)).idx (ix2 i k)) ?_ ?_)
  · rw [← hX c]
    rfl
  · rfl
  · rfl

theorem yHalf_apply (hY : ∀ c : Dev nD, m ((c : Thread nD τ).loc main_arg1) = blockOf c Y) (c : Dev nD) (r : Fin 2)
    (i : Fin 256) (k : Fin 2048) : yHalf m c r (ix2 i k) = Y (ix2 (rowAt c r i) k) := by
  refine Eq.trans ?_ (blockOf_row c r Y i k
    ((Rect.unit (s := S4096x2048) (k0_off1 c (BitVec.ofNat 32 (256 * r.val))) S256x2048.size (k0_off1_inb c r)).idx (ix2 i k)) ?_ ?_)
  · rw [← hY c]
    rfl
  · rfl
  · rfl

end Cert.Value

end
-- ==== Proof.Value.Row.lean ====
/-
One row of the array, normalised: the row's mean, its spread, and its entries less the mean over the root of the spread.
-/
module

public import Idealize.ShloMosaic.PureOps.Ideal
public import Idealize.ShloMosaic.Lib.IdealHost

@[expose] public section

noncomputable section

namespace Cert.Value

open Idealize.ShloMosaic

/-- The row length, 2048. -/
def len : EReal := Ideal.ofBits .f32 0x45000000#32

/-- What is added to the spread before its root is taken. -/
def eps : EReal := Ideal.ofBits .f32 0x3727C5AC#32

def mean (a : Fin 2048 → EReal) : EReal := Ideal.div (∑ k, a k) len

def spread (a : Fin 2048 → EReal) : EReal := Ideal.div (∑ k, (a k - mean a) * (a k - mean a)) len

def hat (a : Fin 2048 → EReal) (j : Fin 2048) : EReal := (a j - mean a) * Ideal.rsqrt (spread a + eps)

theorem len_eq : len = ((2048 : ℝ) : EReal) := by
  unfold len
  simp [Ideal.ofBits, Ideal.ieee, -EReal.coe_mul]
  norm_num

theorem len_pos : 0 < len := by
  rw [len_eq]
  exact_mod_cast (by norm_num : (0 : ℝ) < 2048)

theorem eps_pos : 0 < eps := by
  unfold eps
  simp [Ideal.ofBits, Ideal.ieee, -EReal.coe_mul]

/-- A square is not negative, at the infinities either. -/
theorem square_nonneg (x : EReal) : 0 ≤ x * x := by
  induction x with
  | bot => simp
  | top => simp
  | coe r => exact_mod_cast mul_self_nonneg r

theorem spread_nonneg (a : Fin 2048 → EReal) : 0 ≤ spread a := by
  unfold spread Ideal.div
  rw [len_eq, if_neg (by norm_num)]
  exact mul_nonneg (Finset.sum_nonneg fun k _ => square_nonneg _) (by
    rw [← EReal.coe_inv]; exact_mod_cast (by norm_num : (0 : ℝ) ≤ 2048⁻¹))

theorem spread_eps_pos (a : Fin 2048 → EReal) : 0 < spread a + eps :=
  lt_of_lt_of_le eps_pos (le_add_of_nonneg_left (spread_nonneg a))

/-- One over the root is the reciprocal root, of what is positive. -/
theorem one_div_sqrt {v : EReal} (h : 0 < v) : Ideal.div 1 (Ideal.sqrt v) = Ideal.rsqrt v := by
  induction v with
  | bot => simp at h
  | top => simp [Ideal.div]
  | coe r =>
    have hr : 0 < r := by exact_mod_cast h
    have hs : Real.sqrt r ≠ 0 := (Real.sqrt_pos.mpr hr).ne'
    rw [Ideal.sqrt_coe, Ideal.rsqrt_coe, if_neg hr.not_gt, if_neg hr.not_gt, if_neg hr.ne', Ideal.div,
      if_neg (by exact_mod_cast hs), one_mul, EReal.coe_inv]

end Cert.Value

end
-- ==== Proof.Value.Block.lean ====
/-
What one block of 256 rows contributes, entry by entry: for each column the sum over the block's rows, of `dy` times the
normalised row in the first result row and of `dy` in the second.
-/
module

public import proofs.«01_k».proof.Proof.Value.Row
public import proofs.«01_k».proof.Proof.Gen.KernelIdeal.Skeleton
public import Idealize.ShloMosaic.Lib.Pointwise

@[expose] public section

noncomputable section

namespace Cert.Value

open Idealize.ShloMosaic
open Cert.KernelIdeal Cert.KernelIdeal.Gen

theorem pay1_gamma (x y : Vec Ideal S256x2048 .f32) (j : Fin 2048) :
    k0_pay1 x y (ix2 0 j) = ∑ i : Fin 256, y (ix2 i j) * hat (fun k => x (ix2 i k)) j := by
  unfold hat spread mean len eps
  pointwise [k0_pay1]

theorem pay1_beta (x y : Vec Ideal S256x2048 .f32) (j : Fin 2048) :
    k0_pay1 x y (ix2 1 j) = ∑ i : Fin 256, y (ix2 i j) := by
  pointwise [k0_pay1]

theorem pay2_eq (p : FVec Ideal S2x2048 .f32) (x y : Vec Ideal S256x2048 .f32) (r : Fin 2) (j : Fin 2048) :
    k0_pay2 p x y (ix2 r j) = p (ix2 r j) + k0_pay1 x y (ix2 r j) := by
  pointwise [k0_pay1, k0_pay2]

theorem pay3_eq (v : Vec Ideal S16x2x2048 .bf16) (r : Fin 2) (j : Fin 2048) :
    k0_pay3 v (ix2 r j) = ∑ d : Fin 16, v (ix3 d r j) := by
  pointwise [k0_pay3]

end Cert.Value

end
-- ==== Proof.Value.Whole.lean ====
/-
What the reference computes, entry by entry: for each column the sum over all 8192 rows, of `dy` times the normalised row
in the first result row and of `dy` in the second.
-/
module

public import proofs.«01_k».proof.Proof.Value.Row
public import proofs.«01_k».proof.Proof.Gen.ReferenceIdeal.Run
public import Idealize.ShloMosaic.Lib.Pointwise

@[expose] public section

noncomputable section

namespace Cert.Value

open Idealize.ShloMosaic
open Cert.ReferenceIdeal Cert.ReferenceIdeal.Gen

/-- The column of row means, as the reference writes it. -/
def refMean (x : FVec Ideal S8192x2048 .f32) : FVec Ideal S8192x1 .f32 :=
  Host.divf (broadcastInDim S8192x1 ![0] bcast_S8192_S8192x1_0
      (Host.reduceAdd x (constant S_ .f32 0x00000000#32) reducesTo_S8192x2048_S8192_d1 h_S_))
    (broadcastInDim S8192x1 ![] bcast_S_S8192x1 (constant S_ .f32 0x45000000#32))

/-- The array less its row means. -/
def refDev (x : FVec Ideal S8192x2048 .f32) : FVec Ideal S8192x2048 .f32 :=
  subf x (broadcastInDim S8192x2048 ![0, 1] bcast_S8192x1_S8192x2048_0_1 (refMean x))

/-- The number of entries of a row, less zero: what the reference divides the squares by. -/
def refCount : FVec Ideal S_ .f32 := subf (constant S_ .f32 0x45000000#32) (sitofp .f32 (constantI S_ 32 0#32))

/-- The column of row variances, as the reference writes it: chosen where the divisor is positive. -/
def refVar (x : FVec Ideal S8192x2048 .f32) : FVec Ideal S8192x1 .f32 :=
  select (broadcastInDim S8192x1 ![] bcast_S_S8192x1 (cmpf .ogt refCount (constant S_ .f32 0x00000000#32)))
    (Host.divf (broadcastInDim S8192x1 ![0] bcast_S8192_S8192x1_0
        (Host.reduceAdd (mulf (refDev x) (refDev x)) (constant S_ .f32 0x00000000#32) reducesTo_S8192x2048_S8192_d1 h_S_))
      (broadcastInDim S8192x1 ![] bcast_S_S8192x1 refCount))
    (broadcastInDim S8192x1 ![] bcast_S_S8192x1 (id (constant S_ .f32 0x7FC00000#32)))

/-- The column of one over the root of the variance. -/
def refRstd (x : FVec Ideal S8192x2048 .f32) : FVec Ideal S8192x1 .f32 :=
  Host.divf (broadcastInDim S8192x1 ![] bcast_S_S8192x1 (constant S_ .f32 0x3F800000#32))
    (Host.sqrt (addf (refVar x) (broadcastInDim S8192x1 ![] bcast_S_S8192x1 (constant S_ .f32 0x3727C5AC#32))))

/-- The reference's result. -/
def refOut (x y : FVec Ideal S8192x2048 .f32) : FVec Ideal S2x2048 .f32 :=
  concatenate S2x2048 0
    [⟨S1x2048, broadcastInDim S1x2048 ![1] bcast_S2048_S1x2048_1
        (Host.reduceAdd (mulf y (mulf (refDev x) (broadcastInDim S8192x2048 ![0, 1] bcast_S8192x1_S8192x2048_0_1 (refRstd x))))
          (constant S_ .f32 0x00000000#32) reducesTo_S8192x2048_S2048_d0 h_S_)⟩,
     ⟨S1x2048, broadcastInDim S1x2048 ![1] bcast_S2048_S1x2048_1
        (Host.reduceAdd y (constant S_ .f32 0x00000000#32) reducesTo_S8192x2048_S2048_d0 h_S_)⟩]
    concatenates_S1x2048_S1x2048_S2x2048_d0

variable (x y : FVec Ideal S8192x2048 .f32)

theorem refMean_apply (i : Fin 8192) : refMean x (ix2 i 0) = mean fun k => x (ix2 i k) := by
  unfold mean len
  pointwise [refMean]

theorem refDev_apply (i : Fin 8192) (k : Fin 2048) :
    refDev x (ix2 i k) = x (ix2 i k) - mean fun k => x (ix2 i k) := by
  rw [← refMean_apply]
  pointwise [refDev]

theorem refCount_apply (i : S_.Idx) : refCount i = len := by
  show len - (((0#32).toInt : ℝ) : EReal) = len
  simp

theorem refVar_apply (i : Fin 8192) : refVar x (ix2 i 0) = spread fun k => x (ix2 i k) := by
  have hs : Host.reduceAdd (mulf (refDev x) (refDev x)) (constant S_ .f32 0x00000000#32) reducesTo_S8192x2048_S8192_d1 h_S_ (ix1 i)
      = ∑ k : Fin 2048, refDev x (ix2 i k) * refDev x (ix2 i k) := by pointwise
  unfold spread
  simp only [← refDev_apply]
  rw [← hs]
  pointwise [refVar]
  rw [refCount_apply, if_pos len_pos]

theorem refRstd_apply (i : Fin 8192) :
    refRstd x (ix2 i 0) = Ideal.rsqrt ((spread fun k => x (ix2 i k)) + eps) := by
  rw [← one_div_sqrt (spread_eps_pos _), ← refVar_apply]
  unfold eps
  pointwise [refRstd]

theorem refOut_gamma (j : Fin 2048) :
    refOut x y (ix2 0 j) = ∑ i : Fin 8192, y (ix2 i j) * hat (fun k => x (ix2 i k)) j := by
  unfold hat
  simp only [← refRstd_apply, ← refDev_apply]
  pointwise [refOut]

theorem refOut_beta (j : Fin 2048) : refOut x y (ix2 1 j) = ∑ i : Fin 8192, y (ix2 i j) := by
  pointwise [refOut]

end Cert.Value

end
-- ==== Proof.Value.Equation.lean ====
/-
The equation: what every device ends with is what the reference computes from the whole arrays.
-/
module

public import proofs.«01_k».proof.Proof.Value.Rows
public import proofs.«01_k».proof.Proof.Value.Block
public import proofs.«01_k».proof.Proof.Value.Whole

@[expose] public section

noncomputable section

namespace Cert.Value

open Idealize.ShloMosaic Idealize.ShloMosaic.TcCoe
open Cert.KernelIdeal Cert.KernelIdeal.Gen Cert.KernelIdeal.Hand

/-- The rows of the array, counted by device, half and row of the half. -/
def rowEquiv : (Fin 16 × Fin 2) × Fin 256 ≃ Fin 8192 where
  toFun p := rowAt p.1.1 p.1.2 p.2
  invFun n := ((⟨n.val / 512, by omega⟩, ⟨n.val / 256 % 2, by omega⟩), ⟨n.val % 256, by omega⟩)
  left_inv := fun ⟨⟨c, r⟩, i⟩ => by
    refine Prod.ext (Prod.ext (Fin.ext ?_) (Fin.ext ?_)) (Fin.ext ?_)
    · show (512 * c.val + 256 * r.val + i.val) / 512 = c.val
      omega
    · show (512 * c.val + 256 * r.val + i.val) / 256 % 2 = r.val
      omega
    · show (512 * c.val + 256 * r.val + i.val) % 256 = i.val
      omega
  right_inv n := Fin.ext (by
    show 512 * (n.val / 512) + 256 * (n.val / 256 % 2) + n.val % 256 = n.val
    omega)

/-- A sum over all rows, device by device and half by half. -/
theorem sum_rows (f : Fin 8192 → EReal) :
    ∑ c : Fin 16, (∑ i : Fin 256, f (rowAt c 0 i) + ∑ i : Fin 256, f (rowAt c 1 i)) = ∑ n : Fin 8192, f n := by
  rw [← Equiv.sum_comp rowEquiv f, Fintype.sum_prod_type, Fintype.sum_prod_type]
  refine Finset.sum_congr rfl fun c _ => ?_
  rw [Fin.sum_univ_two]
  rfl

variable (m : (ℓ : Loc nD τ sig) → Buf (Elt Ideal) ℓ) (X Y : SWhole.Idx → EReal)

/-- Entry `j` of result row `s` is the sum of the devices' contributions. -/
theorem outV_sum (s : Fin 2) (j : Fin 2048) :
    outV m (ix2 s j) = ∑ c : Fin 16, (k0_pay1 (xHalf m c 0) (yHalf m c 0) (ix2 s j) + k0_pay1 (xHalf m c 1) (yHalf m c 1) (ix2 s j)) :=
  (pay3_eq (gathered m) s j).trans (Finset.sum_congr rfl fun c _ => pay2_eq _ (xHalf m c 1) (yHalf m c 1) s j)

/-- The first result row: the devices' contributions are the sum over all rows. -/
theorem outV_gamma (hX : ∀ c : Dev nD, m ((c : Thread nD τ).loc main_arg0) = blockOf c X)
    (hY : ∀ c : Dev nD, m ((c : Thread nD τ).loc main_arg1) = blockOf c Y) (j : Fin 2048) :
    outV m (ix2 0 j) = refOut X Y (ix2 0 j) := by
  rw [outV_sum, refOut_gamma, ← sum_rows]
  simp only [pay1_gamma, xHalf_apply m X hX, yHalf_apply m Y hY]

/-- The second result row likewise. -/
theorem outV_beta (hY : ∀ c : Dev nD, m ((c : Thread nD τ).loc main_arg1) = blockOf c Y) (j : Fin 2048) :
    outV m (ix2 1 j) = refOut X Y (ix2 1 j) := by
  rw [outV_sum, refOut_beta, ← sum_rows]
  simp only [pay1_beta, yHalf_apply m Y hY]

/-- Every device ends with the reference's result. -/
theorem outV_eq (hX : ∀ c : Dev nD, m ((c : Thread nD τ).loc main_arg0) = blockOf c X)
    (hY : ∀ c : Dev nD, m ((c : Thread nD τ).loc main_arg1) = blockOf c Y) : outV m = refOut X Y := by
  funext q
  obtain ⟨s, j, rfl⟩ : ∃ (s : Fin 2) (j : Fin 2048), q = ix2 s j := ⟨q 0, q 1, eq_ix2 q⟩
  match s with
  | 0 => exact outV_gamma m X Y hX hY j
  | 1 => exact outV_beta m X Y hY j

end Cert.Value

end
-- ==== Proof.Agree.lean ====
/-
The value claim: from devices that hold their blocks of the reference's arrays, every device ends with the reference's
result.
-/
module

public import proofs.«01_k».proof.Defs
public import proofs.«01_k».proof.Proof.KernelIdeal.Launch
public import proofs.«01_k».proof.Proof.Value.Equation

@[expose] public section

noncomputable section

namespace Cert.Agree

open Idealize.ShloMosaic Idealize.SL.Sem

theorem algebraic : Cert.algebraic_KernelIdeal_ReferenceIdeal (hKernelIdeal := Cert.KernelIdeal.Gen.facts)
    (hReferenceIdeal := Cert.ReferenceIdeal.Gen.facts) := fun m g m' g' _ hargs =>
  ⟨Cert.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (Cert.Value.outV_eq m _ _ (fun c => (hargs c).1) fun c => (hargs c).2.1),
        (h.1 c).2 0, (h.1 c).2 1, (h.1 c).2 2⟩)
      (Cert.KernelIdeal.Hand.run_main (F := Ideal) m g),
    (θ_run _ _ _).mono (fun _ h => h 0) (Cert.ReferenceIdeal.Value.run (F := Ideal) m' g')⟩

end Cert.Agree

end
-- ==== Proof.lean ====
/-
The claim, put together from its parts.
-/
module

public import proofs.«01_k».proof.Defs
public import proofs.«01_k».proof.Proof.Frames
public import proofs.«01_k».proof.Proof.Agree

@[expose] public section

noncomputable section

namespace Cert.Proof

theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Agree.algebraic⟩

end Cert.Proof

end
